-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S2048x512 : Shape := ⟨2, ![2048, 512]⟩
abbrev S2048x2048 : Shape := ⟨2, ![2048, 2048]⟩
abbrev S2x2048x512 : Shape := ⟨3, ![2, 2048, 512]⟩
abbrev S3 : Shape := ⟨1, ![3]⟩
abbrev S_ : Shape := ⟨0, ![]⟩
abbrev S1x2048x512 : Shape := ⟨3, ![1, 2048, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S2048x4096, .f32⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S2048x2048, .bf16⟩
  | .local _ .vmem, ⟨5, _⟩ => ⟨S2x2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 1

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_13 : BitVec 32 := 0#32
  let v25 : BitVec 1 := Scalar.cmpi .eq arg0 c0_i32_13
  let v26 : BitVec 32 := Scalar.extui v25
  let c0_i32_14 : BitVec 32 := 0#32
  let v27 : BitVec 1 := Scalar.cmpi .ne v26 c0_i32_14
  v27

def k0_dev1 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_226 : BitVec 32 := 1#32
  let v307 : BitVec 32 := Scalar.muli v13 c1_i32_226
  let v308 : BitVec 32 := Scalar.addi c0_i32_227 v307
  v308.toNat
def k0_dev2 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_229 : BitVec 32 := 1#32
  let v309 : BitVec 32 := Scalar.muli v24 c1_i32_229
  let v310 : BitVec 32 := Scalar.addi c0_i32_230 v309
  v310.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v28 : BitVec 32 := Scalar.subi v2 c1_i32_15
  let c4_i32_16 : BitVec 32 := 4#32
  let c0_i32_17 : BitVec 32 := 0#32
  let v29 : BitVec 1 := Scalar.cmpi .eq c4_i32_16 c0_i32_17
  let c1_i32_18 : BitVec 32 := 1#32
  let v30 : BitVec 32 := Scalar.select v29 c1_i32_18 c4_i32_16
  let v31 : BitVec 32 := Scalar.remsi v28 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c2048_i32 : BitVec 32 := 2048#32
  let v39 : BitVec 32 := Scalar.muli v38 c2048_i32
  let c0_i32_22 : BitVec 32 := 0#32
  ![v39.toNat, 0]
def k0_off2 (i : grid0.Coords) : Fin 3 → Nat :=
  let arg0 : BitVec 32 := BitVec.ofNat 32 (i 0).val
  let c0_i32_27 : BitVec 32 := 0#32
  let v47 : BitVec 32 := Scalar.addi arg0 c0_i32_27
  let c2_i32 : BitVec 32 := 2#32
  let c0_i32_28 : BitVec 32 := 0#32
  let v48 : BitVec 1 := Scalar.cmpi .eq c2_i32 c0_i32_28
  let c1_i32_29 : BitVec 32 := 1#32
  let v49 : BitVec 32 := Scalar.select v48 c1_i32_29 c2_i32
  let v50 : BitVec 32 := Scalar.remsi v47 v49
  let c0_i32_31 : BitVec 32 := 0#32
  let v52 : BitVec 1 := Scalar.cmpi .slt v50 c0_i32_31
  let c0_i32_32 : BitVec 32 := 0#32
  let v53 : BitVec 1 := Scalar.cmpi .slt v49 c0_i32_32
  let v54 : BitVec 1 := Scalar.xori v52 v53
  let c0_i32_30 : BitVec 32 := 0#32
  let v51 : BitVec 1 := Scalar.cmpi .ne v50 c0_i32_30
  let v55 : BitVec 1 := Scalar.andi v54 v51
  let v56 : BitVec 32 := Scalar.addi v50 v49
  let v57 : BitVec 32 := Scalar.select v55 v56 v50
  let v58 : Index := Scalar.indexCast v57
  let c0_33 : Index := 0#32
  let c0_34 : Index := 0#32
  ![v58.toNat, 0, 0]
def k0_off3 (i : grid0.Coords) (c0_i32_42 : BitVec 32) : Fin 3 → Nat :=
  let arg0 : BitVec 32 := BitVec.ofNat 32 (i 0).val
  let v73 : BitVec 32 := Scalar.addi arg0 c0_i32_42
  let c1_i32_43 : BitVec 32 := 1#32
  let v74 : BitVec 32 := Scalar.addi v73 c1_i32_43
  let c2_i32_44 : BitVec 32 := 2#32
  let c0_i32_45 : BitVec 32 := 0#32
  let v75 : BitVec 1 := Scalar.cmpi .eq c2_i32_44 c0_i32_45
  let c1_i32_46 : BitVec 32 := 1#32
  let v76 : BitVec 32 := Scalar.select v75 c1_i32_46 c2_i32_44
  let v77 : BitVec 32 := Scalar.remsi v74 v76
  let c0_i32_48 : BitVec 32 := 0#32
  let v79 : BitVec 1 := Scalar.cmpi .slt v77 c0_i32_48
  let c0_i32_49 : BitVec 32 := 0#32
  let v80 : BitVec 1 := Scalar.cmpi .slt v76 c0_i32_49
  let v81 : BitVec 1 := Scalar.xori v79 v80
  let c0_i32_47 : BitVec 32 := 0#32
  let v78 : BitVec 1 := Scalar.cmpi .ne v77 c0_i32_47
  let v82 : BitVec 1 := Scalar.andi v81 v78
  let v83 : BitVec 32 := Scalar.addi v77 v76
  let v84 : BitVec 32 := Scalar.select v82 v83 v77
  let c0_i32_56 : BitVec 32 := 0#32
  let c0_i32_57 : BitVec 32 := 0#32
  ![v84.toNat, 0, 0]
def k0_off4 (i : grid0.Coords) (c0_i32_35 : BitVec 32) : Fin 3 → Nat :=
  let arg0 : BitVec 32 := BitVec.ofNat 32 (i 0).val
  let v62 : BitVec 32 := Scalar.addi arg0 c0_i32_35
  let c2_i32_36 : BitVec 32 := 2#32
  let c0_i32_37 : BitVec 32 := 0#32
  let v63 : BitVec 1 := Scalar.cmpi .eq c2_i32_36 c0_i32_37
  let c1_i32_38 : BitVec 32 := 1#32
  let v64 : BitVec 32 := Scalar.select v63 c1_i32_38 c2_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let c0_i32_58 : BitVec 32 := 0#32
  let c0_i32_59 : BitVec 32 := 0#32
  ![v72.toNat, 0, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_54 : BitVec 32 := 1#32
  let v88 : BitVec 32 := Scalar.muli v24 c1_i32_54
  let v89 : BitVec 32 := Scalar.addi c0_i32_55 v88
  v89.toNat
def k0_off5 (d0 : Dev nD) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.subi v2 c0_i32_60
  let c2_i32_61 : BitVec 32 := 2#32
  let v99 : BitVec 32 := Scalar.subi v98 c2_i32_61
  let c4_i32_62 : BitVec 32 := 4#32
  let c0_i32_63 : BitVec 32 := 0#32
  let v100 : BitVec 1 := Scalar.cmpi .eq c4_i32_62 c0_i32_63
  let c1_i32_64 : BitVec 32 := 1#32
  let v101 : BitVec 32 := Scalar.select v100 c1_i32_64 c4_i32_62
  let v102 : BitVec 32 := Scalar.remsi v99 v101
  let c0_i32_66 : BitVec 32 := 0#32
  let v104 : BitVec 1 := Scalar.cmpi .slt v102 c0_i32_66
  let c0_i32_67 : BitVec 32 := 0#32
  let v105 : BitVec 1 := Scalar.cmpi .slt v101 c0_i32_67
  let v106 : BitVec 1 := Scalar.xori v104 v105
  let c0_i32_65 : BitVec 32 := 0#32
  let v103 : BitVec 1 := Scalar.cmpi .ne v102 c0_i32_65
  let v107 : BitVec 1 := Scalar.andi v106 v103
  let v108 : BitVec 32 := Scalar.addi v102 v101
  let v109 : BitVec 32 := Scalar.select v107 v108 v102
  let c2048_i32_68 : BitVec 32 := 2048#32
  let v110 : BitVec 32 := Scalar.muli v109 c2048_i32_68
  let c0_i32_69 : BitVec 32 := 0#32
  ![v110.toNat, 0]
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v127 : BitVec 32 := Scalar.muli v13 c1_i32_87
  let v128 : BitVec 32 := Scalar.addi c0_i32_88 v127
  v128.toNat
def k0_off6 (i : grid0.Coords) (c0_i32_42 : BitVec 32) : Fin 3 → Nat :=
  let arg0 : BitVec 32 := BitVec.ofNat 32 (i 0).val
  let v73 : BitVec 32 := Scalar.addi arg0 c0_i32_42
  let c1_i32_43 : BitVec 32 := 1#32
  let v74 : BitVec 32 := Scalar.addi v73 c1_i32_43
  let c2_i32_44 : BitVec 32 := 2#32
  let c0_i32_45 : BitVec 32 := 0#32
  let v75 : BitVec 1 := Scalar.cmpi .eq c2_i32_44 c0_i32_45
  let c1_i32_46 : BitVec 32 := 1#32
  let v76 : BitVec 32 := Scalar.select v75 c1_i32_46 c2_i32_44
  let v77 : BitVec 32 := Scalar.remsi v74 v76
  let c0_i32_48 : BitVec 32 := 0#32
  let v79 : BitVec 1 := Scalar.cmpi .slt v77 c0_i32_48
  let c0_i32_49 : BitVec 32 := 0#32
  let v80 : BitVec 1 := Scalar.cmpi .slt v76 c0_i32_49
  let v81 : BitVec 1 := Scalar.xori v79 v80
  let c0_i32_47 : BitVec 32 := 0#32
  let v78 : BitVec 1 := Scalar.cmpi .ne v77 c0_i32_47
  let v82 : BitVec 1 := Scalar.andi v81 v78
  let v83 : BitVec 32 := Scalar.addi v77 v76
  let v84 : BitVec 32 := Scalar.select v82 v83 v77
  let v129 : Index := Scalar.indexCast v84
  let c0_89 : Index := 0#32
  let c0_90 : Index := 0#32
  ![v129.toNat, 0, 0]
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v166 : BitVec 32 := Scalar.muli v24 c1_i32_116
  let v167 : BitVec 32 := Scalar.addi c0_i32_117 v166
  v167.toNat
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_149 : BitVec 32 := 1#32
  let v205 : BitVec 32 := Scalar.muli v13 c1_i32_149
  let v206 : BitVec 32 := Scalar.addi c0_i32_150 v205
  v206.toNat
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_179 : BitVec 32 := 1#32
  let v244 : BitVec 32 := Scalar.muli v24 c1_i32_179
  let v245 : BitVec 32 := Scalar.addi c0_i32_180 v244
  v245.toNat
def k0_cond3 (i : grid0.Coords) : BitVec 1 :=
  let arg0 : BitVec 32 := BitVec.ofNat 32 (i 0).val
  let c6_i32 : BitVec 32 := 6#32
  let v283 : BitVec 1 := Scalar.cmpi .sle arg0 c6_i32
  let v284 : BitVec 32 := Scalar.extui v283
  let c0_i32_211 : BitVec 32 := 0#32
  let v285 : BitVec 1 := Scalar.cmpi .ne v284 c0_i32_211
  v285

def k0_dev8 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_226 : BitVec 32 := 1#32
  let v306 : BitVec 32 := Scalar.muli v13 c1_i32_226
  let v307 : BitVec 32 := Scalar.addi c0_i32_227 v306
  v307.toNat
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Common.lean ====
/-
# The ring's protocol: cells, contents, schedule, levels

The four devices stand in a ring. Steps are counted through the whole launch: step `g = 3 j + h` is hop `h` of
output block `j`. At step `g` device `c` sends the partial sum in slot `g % 2` of its communication buffer to slot
`(g + 1) % 2` of the device after it, `nxt c`.

* Barrier cell (runtime semaphore): one round, two units. The device before pays one and hands nothing; the device
  after pays the other and hands its slot 1 and the mark that its receive cell is at round 0.
* Send cell `h` of `c`, round `j`: paid by `c`'s own transfer; hands back slot `g % 2`.
* Receive cell `h` of `c`, round `j`: paid by the transfer of `prv c`; hands slot `(g + 1) % 2` holding the partial sum of
  `prv c` and the mark that the credit cell of `prv c` is at round `g`.
* Credit cell of `c`, round `k`: paid by `nxt c` after its waits of step `k`; hands the slot of `nxt c` that step
  `k + 1` writes and the mark that the receive cell of step `k + 1` is at its round.
* Chunk cell of `c`, round `n`: paid by `c`'s local copy of a chunk of `x`; hands the chunk buffer holding it and the rows read.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Rounds
public import Idealize.ShloMosaic.Lib.Memref
public import Idealize.ShloMosaic.Lib.ViewIndex
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds and the ring's, whose duties are named by `Bool`. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The ring -/

theorem nD_eq : nD = 4 := rfl

/-- The device after `c` and the device before it. -/
def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- What the kernel's device arithmetic names. -/
theorem dev1_eq (c : Dev nD) : k0_dev1 c = (prv c).val := by revert c; decide +kernel
theorem dev2_eq (c : Dev nD) : k0_dev2 c = (nxt c).val := by revert c; decide +kernel
theorem dev3_eq (c : Dev nD) : k0_dev3 c = (nxt c).val := by revert c; decide +kernel
theorem dev4_eq (c : Dev nD) : k0_dev4 c = (prv c).val := by revert c; decide +kernel
theorem dev5_eq (c : Dev nD) : k0_dev5 c = (nxt c).val := by revert c; decide +kernel
theorem dev6_eq (c : Dev nD) : k0_dev6 c = (prv c).val := by revert c; decide +kernel
theorem dev7_eq (c : Dev nD) : k0_dev7 c = (nxt c).val := by revert c; decide +kernel
theorem dev8_eq (c : Dev nD) : k0_dev8 c = (prv c).val := by revert c; decide +kernel

/-! ## Buffers, slots and chunks -/

abbrev xM : Memref sig .tc .hbm S8192x2048 .bf16 := Memref.whole main_arg0
abbrev bM : Memref sig .tc .vmem S2048x2048 .bf16 := Memref.whole cc0_scratch0
abbrev kM : Memref sig .tc .vmem S2x2048x512 .bf16 := Memref.whole cc0_scratch1

theorem sl_inb (g : ℕ) : ∀ a, (![g % 2, 0, 0] : Fin 3 → ℕ) a + S1x2048x512.size a ≤ S2x2048x512.size a := by
  have h : g % 2 < 2 := Nat.mod_lt _ (by decide)
  generalize g % 2 = b at h
  rcases (by omega : b = 0 ∨ b = 1) with rfl | rfl <;> decide

/-- The slot of step `g`: `g % 2` of the communication buffer. -/
abbrev slR (g : ℕ) : Rect S2x2048x512 := Rect.unit (s := S2x2048x512) ![g % 2, 0, 0] S1x2048x512.size (sl_inb g)
abbrev slM (g : ℕ) : Memref sig .tc .vmem S1x2048x512 .bf16 := kM.slice (slR g) (fun _ => rfl)

/-- The first row of the chunk of `x` that device `c` copies `n`-th: chunk `c - 1 - n` around the ring. -/
def xrow (c : Dev nD) (n : ℕ) : ℕ := (c.val + 7 - n % 4) % 4 * 2048

theorem x_inb (c : Dev nD) (n : ℕ) : ∀ a, (![xrow c n, 0] : Fin 2 → ℕ) a + S2048x2048.size a ≤ S8192x2048.size a := by
  have h : (c.val + 7 - n % 4) % 4 < 4 := Nat.mod_lt _ (by decide)
  unfold xrow
  generalize (c.val + 7 - n % 4) % 4 = b at h
  rcases (by omega : b = 0 ∨ b = 1 ∨ b = 2 ∨ b = 3) with rfl | rfl | rfl | rfl <;> decide

abbrev xR (c : Dev nD) (n : ℕ) : Rect S8192x2048 := Rect.unit (s := S8192x2048) ![xrow c n, 0] S2048x2048.size (x_inb c n)
abbrev xsM (c : Dev nD) (n : ℕ) : Memref sig .tc .hbm S2048x2048 .bf16 := xM.slice (xR c n) (fun _ => rfl)

/-- The kernel's offsets, as functions of the grid point. -/
theorem off1_eq (c : Dev nD) : k0_off1 c = ![xrow c 0, 0] := by revert c; decide +kernel
theorem off5_eq (c : Dev nD) : ∀ r : Fin 3, k0_off5 c (BitVec.ofNat 32 r.val) = ![xrow c (r.val + 1), 0] := by revert c; decide +kernel
theorem off2_eq (i : grid0.Coords) : k0_off2 i = ![(i 0).val % 2, 0, 0] := by revert i; decide +kernel
theorem off3_eq (i : grid0.Coords) : ∀ r : Fin 3, k0_off3 i (BitVec.ofNat 32 r.val) = ![((i 0).val + r.val + 1) % 2, 0, 0] := by
  revert i; decide +kernel
theorem off4_eq (i : grid0.Coords) : ∀ r : Fin 3, k0_off4 i (BitVec.ofNat 32 r.val) = ![((i 0).val + r.val) % 2, 0, 0] := by
  revert i; decide +kernel
theorem off6_eq (i : grid0.Coords) : ∀ r : Fin 3, k0_off6 i (BitVec.ofNat 32 r.val) = ![((i 0).val + r.val + 1) % 2, 0, 0] := by
  revert i; decide +kernel
theorem cond1_iff (i : grid0.Coords) : k0_cond1 i = 1#1 ↔ (i 0).val = 0 := by revert i; decide +kernel
theorem cond3_iff (i : grid0.Coords) : k0_cond3 i = 1#1 ↔ (i 0).val < 7 := by revert i; decide +kernel

/-! ## Cells -/

/-- The send and receive semaphores of step `g`, the chunk semaphore, the credit semaphore and the runtime's barrier. -/
abbrev sS (g : ℕ) : DmaSem sig := ⟨4 + g % 3, by show _ < 11; omega⟩
abbrev rS (g : ℕ) : DmaSem sig := ⟨7 + g % 3, by show _ < 11; omega⟩
abbrev xS : DmaSem sig := ⟨10, by decide⟩
abbrev cS : Sem sig := ⟨0, by decide⟩
abbrev bS : Sem sig := ⟨1, by decide⟩

abbrev sndC (c : Dev nD) (g : ℕ) : GSem nD τ sig := ((c : Thread nD τ), .dma (sS g))
abbrev rcvC (c : Dev nD) (g : ℕ) : GSem nD τ sig := ((c : Thread nD τ), .dma (rS g))
abbrev xC (c : Dev nD) : GSem nD τ sig := ((c : Thread nD τ), .dma xS)
abbrev crdC (c : Dev nD) : GSem nD τ sig := ((c : Thread nD τ), .reg cS)
abbrev barC (c : Dev nD) : GSem nD τ sig := ((c : Thread nD τ), .reg bS)

/-- What one slot transfer and one chunk copy credit. -/
@[irreducible] def N : ℕ := ((slM 0).squeeze S2048x512 squeezes_S1x2048x512_S2048x512).view.dmaCredit
@[irreducible] def NX : ℕ := bM.view.dmaCredit
theorem N_pos : 0 < N := by unfold N; exact View.dmaCredit_pos _ (by decide)
theorem NX_pos : 0 < NX := by unfold NX; exact View.dmaCredit_pos _ (by decide)

/-! ## Contents -/

/-- The chunk of `x` device `c` copies `n`-th. -/
def xch (c : Dev nD) (n : ℕ) : Vec F S2048x2048 .bf16 :=
  (xsM c n).view.read (Elt F) (m ((c : Thread nD τ).loc main_arg0))

/-- Block `j` of device `c`'s part of the weights. -/
def wblk (c : Dev nD) (j : ℕ) : Vec F S2048x512 .bf16 :=
  (win0_0.blk (⟨j % 8, by rw [N_0]; exact Nat.mod_lt _ (by decide)⟩ : Fin grid0.N)).view.read (Elt F) (m ((c : Thread nD τ).loc main_arg1))

/-- The partial sums device `c` sends at the three hops of block `j`, and its result block. -/
def acc0 (c : Dev nD) (j : ℕ) : Vec F S1x2048x512 .bf16 := k0_pay2 (xch m c 0) (wblk m c j)
def acc1 (c : Dev nD) (j : ℕ) : Vec F S1x2048x512 .bf16 := k0_pay3 (acc0 m (prv c) j) (xch m c 1) (wblk m c j)
def acc2 (c : Dev nD) (j : ℕ) : Vec F S1x2048x512 .bf16 := k0_pay4 (acc1 m (prv c) j) (xch m c 2) (wblk m c j)
def outB (c : Dev nD) (j : ℕ) : Vec F S2048x512 .f32 := k0_pay1 (acc2 m (prv c) j) (xch m c 3) (wblk m c j)

/-- What device `c` sends at step `g`. -/
def acc (c : Dev nD) (g : ℕ) : Vec F S1x2048x512 .bf16 :=
  if g % 3 = 0 then acc0 m c (g / 3) else if g % 3 = 1 then acc1 m c (g / 3) else acc2 m c (g / 3)

theorem acc_0 (c : Dev nD) (j : ℕ) : acc m c (3 * j) = acc0 m c j := by
  unfold acc; rw [if_pos (by omega)]; congr 1; omega
theorem acc_1 (c : Dev nD) (j : ℕ) : acc m c (3 * j + 1) = acc1 m c j := by
  unfold acc; rw [if_neg (by omega), if_pos (by omega)]; congr 1; omega
theorem acc_2 (c : Dev nD) (j : ℕ) : acc m c (3 * j + 2) = acc2 m c j := by
  unfold acc; rw [if_neg (by omega), if_neg (by omega)]; congr 1; omega

/-! ## Payloads -/

/-- Device `c` holds slot `g % 2` at contents `v`; at any contents. -/
def slot (c : Dev nD) (g : ℕ) (v : Vec F S1x2048x512 .bf16) : sProp 𝕄 := owns (c : Thread nD τ) (slM g) fullShare v
def slotAny (c : Dev nD) (g : ℕ) : sProp 𝕄 := iprop(∃ v, slot (F := F) c g v)
/-- The rows of `x` that the `n`-th copy reads. -/
def xrows (c : Dev nD) (n : ℕ) : sProp 𝕄 :=
  (xsM c n).view.loc (c : Thread nD τ) ↦[(xsM c n).view.set]{fullShare} (m ((c : Thread nD τ).loc main_arg0))
/-- The chunk buffer at contents `v`. -/
def xbuf (c : Dev nD) (v : Vec F S2048x2048 .bf16) : sProp 𝕄 := ((c : Thread nD τ).loc cc0_scratch0) ↦{fullShare} v

/-- What `c` needs of the device after it to send at step `g`. -/
def nbr (c : Dev nD) (g : ℕ) : sProp 𝕄 := iprop(slotAny (F := F) (nxt c) (g + 1) ∗ reached ER (rcvC (nxt c) g) (g / 3))
def sendPay (c : Dev nD) (g : ℕ) : sProp 𝕄 := slotAny (F := F) c g
def recvPay (c : Dev nD) (g : ℕ) : sProp 𝕄 := iprop(slot c (g + 1) (acc m (prv c) g) ∗ reached ER (crdC (prv c)) g)
def xPay (c : Dev nD) (n : ℕ) : sProp 𝕄 := iprop(xbuf c (xch m c n) ∗ xrows m c n)

instance slot_storable (c : Dev nD) (g : ℕ) (v) : BI.Storable (upEmb : UEmb _ 𝕄) (slot (F := F) c g v) := by unfold slot; infer_instance
instance slotAny_storable (c : Dev nD) (g : ℕ) : BI.Storable (upEmb : UEmb _ 𝕄) (slotAny (F := F) c g) := by unfold slotAny; infer_instance
instance xrows_storable (c : Dev nD) (n : ℕ) : BI.Storable (upEmb : UEmb _ 𝕄) (xrows (F := F) m c n) := by unfold xrows; infer_instance
instance xbuf_storable (c : Dev nD) (v) : BI.Storable (upEmb : UEmb _ 𝕄) (xbuf (F := F) c v) := by unfold xbuf; infer_instance
instance nbr_storable (c : Dev nD) (g : ℕ) : BI.Storable (upEmb : UEmb _ 𝕄) (nbr (F := F) c g) := by unfold nbr; infer_instance

/-! ## The schedule -/

def dutiesOf : SemLoc sig → ℕ → Finset Bool
  | .reg s, r => if s.val = 0 then (if r < 23 then {false} else ∅) else if r = 0 then Finset.univ else ∅
  | .dma q, r => if q.val < 4 then ∅ else if q.val < 10 then (if r < 8 then {false} else ∅) else (if r < 32 then {false} else ∅)

def payOf (c : Dev nD) : SemLoc sig → ℕ → Bool → sProp 𝕄
  | .reg s, r, d => if s.val = 0 then nbr c (r + 1) else if d then nbr c 0 else iprop(emp)
  | .dma q, r, _ => if q.val < 7 then sendPay c (3 * r + (q.val - 4)) else if q.val < 10 then recvPay m c (3 * r + (q.val - 7)) else xPay m c r

def amtOf : SemLoc sig → ℕ
  | .reg _ => 1
  | .dma q => if q.val < 10 then N else NX

instance payOf_storable (c : Dev nD) (s : SemLoc sig) (r : ℕ) (d : Bool) : BI.Storable (upEmb : UEmb _ 𝕄) (payOf (F := F) m c s r d) := by
  unfold payOf sendPay recvPay xPay
  (repeat' split) <;> infer_instance

def Rd : Rounds.Schedule (GSem nD τ sig) Bool 𝕄 where
  duties g r := if g.1.2 = .tc then dutiesOf g.2 r else ∅
  unitless _ := False
  amount g _ _ := amtOf g.2
  payload g r d := payOf m g.1.1 g.2 r d
  amount_pos g _ _ _ := by
    unfold amtOf
    (repeat' split)
    · exact Nat.one_pos
    · exact N_pos
    · exact NX_pos

instance Rd_payload_storable (g : GSem nD τ sig) (r : ℕ) (d : Bool) : BI.Storable (upEmb : UEmb _ 𝕄) ((Rd (F := F) m).payload g r d) := by
  show BI.Storable upEmb (payOf m g.1.1 g.2 r d); infer_instance

section Sched
variable (c : Dev nD)

theorem duties_bar : (Rd (F := F) m).duties (barC c) 0 = Finset.univ := rfl
theorem duties_crd {k : ℕ} (h : k < 23) : (Rd (F := F) m).duties (crdC c) k = {false} := by
  show (if k < 23 then ({false} : Finset Bool) else ∅) = _; rw [if_pos h]
theorem duties_snd {g : ℕ} (h : g < 24) : (Rd (F := F) m).duties (sndC c g) (g / 3) = {false} := by
  show (if 4 + g % 3 < 4 then (∅ : Finset Bool) else if 4 + g % 3 < 10 then (if g / 3 < 8 then {false} else ∅) else _) = _
  rw [if_neg (by omega), if_pos (by omega), if_pos (by omega)]
theorem duties_rcv {g : ℕ} (h : g < 24) : (Rd (F := F) m).duties (rcvC c g) (g / 3) = {false} := by
  show (if 7 + g % 3 < 4 then (∅ : Finset Bool) else if 7 + g % 3 < 10 then (if g / 3 < 8 then {false} else ∅) else _) = _
  rw [if_neg (by omega), if_pos (by omega), if_pos (by omega)]
theorem duties_x {n : ℕ} (h : n < 32) : (Rd (F := F) m).duties (xC c) n = {false} := by
  show (if n < 32 then ({false} : Finset Bool) else ∅) = _; rw [if_pos h]

theorem amount_snd (g r : ℕ) (d : Bool) : (Rd (F := F) m).amount (sndC c g) r d = N := by
  show (if 4 + g % 3 < 10 then N else NX) = N; rw [if_pos (by omega)]
theorem amount_rcv (g r : ℕ) (d : Bool) : (Rd (F := F) m).amount (rcvC c g) r d = N := by
  show (if 7 + g % 3 < 10 then N else NX) = N; rw [if_pos (by omega)]
theorem amount_x (r : ℕ) (d : Bool) : (Rd (F := F) m).amount (xC c) r d = NX := rfl
theorem amount_crd (r : ℕ) (d : Bool) : (Rd (F := F) m).amount (crdC c) r d = 1 := rfl
theorem amount_bar (r : ℕ) (d : Bool) : (Rd (F := F) m).amount (barC c) r d = 1 := rfl

theorem expect_one {g : GSem nD τ sig} {r n : ℕ} (hd : (Rd (F := F) m).duties g r = {false}) (ha : (Rd (F := F) m).amount g r false = n) :
    (Rd (F := F) m).expect g r = n := by
  unfold Schedule.expect Schedule.amountOf; rw [hd, Finset.sum_singleton, ha]
theorem expect_bar : (Rd (F := F) m).expect (barC c) 0 = 2 := by
  unfold Schedule.expect Schedule.amountOf
  rw [duties_bar, Finset.sum_congr rfl fun d _ => amount_bar m c 0 d, Finset.sum_const, Finset.card_univ, Fintype.card_bool, smul_eq_mul]

theorem payload_snd (g : ℕ) (d : Bool) : (Rd (F := F) m).payload (sndC c g) (g / 3) d = sendPay c g := by
  show (if 4 + g % 3 < 7 then sendPay c (3 * (g / 3) + (4 + g % 3 - 4)) else _) = _
  rw [if_pos (by omega)]; congr 1; omega
theorem payload_rcv (g : ℕ) (d : Bool) : (Rd (F := F) m).payload (rcvC c g) (g / 3) d = recvPay m c g := by
  show (if 7 + g % 3 < 7 then _ else if 7 + g % 3 < 10 then recvPay m c (3 * (g / 3) + (7 + g % 3 - 7)) else _) = _
  rw [if_neg (by omega), if_pos (by omega)]; congr 1; omega
theorem payload_x (n : ℕ) (d : Bool) : (Rd (F := F) m).payload (xC c) n d = xPay m c n := rfl
theorem payload_crd (k : ℕ) (d : Bool) : (Rd (F := F) m).payload (crdC c) k d = nbr c (k + 1) := rfl
theorem payload_bar_true : (Rd (F := F) m).payload (barC c) 0 true = nbr c 0 := rfl
theorem payload_bar_false : (Rd (F := F) m).payload (barC c) 0 false = iprop(emp) := rfl

theorem rest_one {g : GSem nD τ sig} {r : ℕ} {P : sProp 𝕄} (hd : (Rd (F := F) m).duties g r = {false}) (hp : (Rd (F := F) m).payload g r false = P) :
    bigSep ((Rd (F := F) m).duties g r \ ∅) (fun d => (Rd (F := F) m).payload g r d) = P := by
  rw [Finset.sdiff_empty, hd, bigSep_singleton, hp]
theorem rest_bar : bigSep ((Rd (F := F) m).duties (barC c) 0 \ ∅) (fun d => (Rd (F := F) m).payload (barC c) 0 d) = iprop(emp ∗ nbr c 0) := by
  rw [Finset.sdiff_empty, duties_bar, bigSep_univ_eq_bigSepL [false, true] (by decide) (by decide), bigSepL_cons_cons, bigSepL_singleton,
    payload_bar_false, payload_bar_true]
  rfl

theorem later_bar : ∀ r ≥ 1, (Rd (F := F) m).duties (barC c) r = ∅ := fun r h => by
  show (if r = 0 then (Finset.univ : Finset Bool) else ∅) = ∅; rw [if_neg (by omega)]
theorem later_crd : ∀ r ≥ 23, (Rd (F := F) m).duties (crdC c) r = ∅ := fun r h => by
  show (if r < 23 then ({false} : Finset Bool) else ∅) = _; rw [if_neg (by omega)]
theorem later_snd (g : ℕ) : ∀ r ≥ 8, (Rd (F := F) m).duties (sndC c g) r = ∅ := fun r h => by
  show (if 4 + g % 3 < 4 then (∅ : Finset Bool) else if 4 + g % 3 < 10 then (if r < 8 then {false} else ∅) else _) = _
  rw [if_neg (by omega), if_pos (by omega), if_neg (by omega)]
theorem later_rcv (g : ℕ) : ∀ r ≥ 8, (Rd (F := F) m).duties (rcvC c g) r = ∅ := fun r h => by
  show (if 7 + g % 3 < 4 then (∅ : Finset Bool) else if 7 + g % 3 < 10 then (if r < 8 then {false} else ∅) else _) = _
  rw [if_neg (by omega), if_pos (by omega), if_neg (by omega)]
theorem later_x : ∀ r ≥ 32, (Rd (F := F) m).duties (xC c) r = ∅ := fun r h => by
  show (if r < 32 then ({false} : Finset Bool) else ∅) = _; rw [if_neg (by omega)]

end Sched

/-! ## What a device owes; levels -/

/-- What device `c` still owes before its send of step `a` and its credit of step `b`. -/
def O (c : Dev nD) (a b : ℕ) : CellTallies nD τ sig ℕ :=
  (∑ g ∈ Finset.Ico a 24, tallyAt (rcvC (nxt c) g) (g / 3) N) + ∑ k ∈ Finset.Ico b 23, tallyAt (crdC (prv c)) k 1

theorem Ico_bot {a b : ℕ} (h : a < b) : Finset.Ico a b = insert a (Finset.Ico (a + 1) b) := by
  ext x; rw [Finset.mem_insert, Finset.mem_Ico, Finset.mem_Ico]; omega
theorem not_mem_Ico_succ (a b : ℕ) : a ∉ Finset.Ico (a + 1) b := fun h => by rw [Finset.mem_Ico] at h; omega

theorem O_send (c : Dev nD) {a b : ℕ} (h : a < 24) : O c a b = O c (a + 1) b + tallyAt (rcvC (nxt c) a) (a / 3) N := by
  unfold O; rw [Ico_bot h, Finset.sum_insert (not_mem_Ico_succ _ _), add_comm (tallyAt _ _ N), add_right_comm]
theorem O_credit (c : Dev nD) {a b : ℕ} (h : b < 23) : O c a b = O c a (b + 1) + tallyAt (crdC (prv c)) b 1 := by
  unfold O; rw [Ico_bot h, Finset.sum_insert (not_mem_Ico_succ _ _), add_comm (tallyAt _ _ 1), add_assoc]
theorem O_end (c : Dev nD) : O c 24 23 = 0 := by
  unfold O; rw [Finset.Ico_self, Finset.Ico_self, Finset.sum_empty, Finset.sum_empty, add_zero]

/-- At launch the two barrier units are owed besides. -/
def O₀ (c : Dev nD) : CellTallies nD τ sig ℕ := O c 0 0 + tallyAt (barC (nxt c)) 0 1 + tallyAt (barC (prv c)) 0 1

def L (g : GSem nD τ sig) : Finset ℕ := if g.1.2 = .tc then Finset.range 32 else ∅
/-- A semaphore's level at round `r`: barrier 1, then receive and credit alternate step by step; the rest 0. -/
def lvOf : SemLoc sig → ℕ → ℕ
  | .reg s, r => if s.val = 0 then 2 * r + 3 else 1
  | .dma q, r => if q.val < 7 then 0 else if q.val < 10 then 2 * (3 * r + (q.val - 7)) + 2 else 0
def lv (g : GSem nD τ sig) (r : ℕ) : ℕ := lvOf g.2 r

theorem L_of_ne (g : GSem nD τ sig) (h : g.1.2 ≠ .tc) : L g = ∅ := if_neg h
theorem L_tc (c : Dev nD) (sm : SemLoc sig) : L ((c : Thread nD τ), sm) = Finset.range 32 := if_pos rfl

theorem lv_rcv (c : Dev nD) (g : ℕ) : lv (rcvC c g) (g / 3) = 2 * g + 2 := by
  show (if 7 + g % 3 < 7 then 0 else if 7 + g % 3 < 10 then 2 * (3 * (g / 3) + (7 + g % 3 - 7)) + 2 else 0) = _
  rw [if_neg (by omega), if_pos (by omega)]; omega
theorem lv_crd (c : Dev nD) (k : ℕ) : lv (crdC c) k = 2 * k + 3 := rfl
theorem lv_bar (c : Dev nD) (k : ℕ) : lv (barC c) k = 1 := rfl
theorem lv_snd (c : Dev nD) (g r : ℕ) : lv (sndC c g) r = 0 := by
  show (if 4 + g % 3 < 7 then 0 else _) = 0; rw [if_pos (by omega)]
theorem lv_x (c : Dev nD) (r : ℕ) : lv (xC c) r = 0 := rfl

theorem tally_pos {g g' : GSem nD τ sig} {i i' n : ℕ} (h : 0 < (tallyAt g i n : CellTallies nD τ sig ℕ) g' i') : g' = g ∧ i' = i := by
  rw [tallyAt_apply] at h
  by_contra hn
  rw [if_neg (by rintro ⟨rfl, rfl⟩; exact hn ⟨rfl, rfl⟩)] at h
  exact Nat.lt_irrefl 0 h

theorem O_pos {c : Dev nD} {a b : ℕ} {g : GSem nD τ sig} {u : ℕ} (h : 0 < O c a b g u) :
    (∃ g', a ≤ g' ∧ g' < 24 ∧ g = rcvC (nxt c) g' ∧ u = g' / 3) ∨ ∃ k, b ≤ k ∧ k < 23 ∧ g = crdC (prv c) ∧ u = k := by
  unfold O at h
  rw [Pi.add_apply, Finsupp.add_apply, Finset.sum_apply, Finset.sum_apply, Finsupp.finset_sum_apply, Finsupp.finset_sum_apply] at h
  rcases Nat.lt_or_ge 0 (∑ x ∈ Finset.Ico a 24, (tallyAt (rcvC (nxt c) x) (x / 3) N : CellTallies nD τ sig ℕ) g u) with h1 | h1
  · obtain ⟨x, hx, hp⟩ := Finset.exists_ne_zero_of_sum_ne_zero (Nat.pos_iff_ne_zero.mp h1)
    obtain ⟨h2, h3⟩ := tally_pos (Nat.pos_of_ne_zero hp)
    exact Or.inl ⟨x, (Finset.mem_Ico.mp hx).1, (Finset.mem_Ico.mp hx).2, h2, h3⟩
  · have h4 : 0 < ∑ x ∈ Finset.Ico b 23, (tallyAt (crdC (prv c)) x 1 : CellTallies nD τ sig ℕ) g u := by omega
    obtain ⟨x, hx, hp⟩ := Finset.exists_ne_zero_of_sum_ne_zero (Nat.pos_iff_ne_zero.mp h4)
    obtain ⟨h2, h3⟩ := tally_pos (Nat.pos_of_ne_zero hp)
    exact Or.inr ⟨x, (Finset.mem_Ico.mp hx).1, (Finset.mem_Ico.mp hx).2, h2, h3⟩

/-- A wait below everything still owed. -/
theorem mayWait (c : Dev nD) (sm : SemLoc sig) (r a b : ℕ) (hr : r < 32) (ha : lvOf sm r < 2 * a + 2) (hb : lvOf sm r < 2 * b + 3) :
    (levAts L lv : sProp 𝕄) ⊢ MayWait (c : Thread nD τ) sm r (O c a b) :=
  MayOwe.of_cut (L := L) (lev := lv) (lvOf sm r)
    (fun p hp => by rw [Finset.mem_singleton.mp hp, L_tc]; exact Finset.mem_range.mpr hr)
    (fun g u hg => by
      rcases O_pos hg with ⟨x, _, h2, rfl, rfl⟩ | ⟨x, _, h2, rfl, rfl⟩ <;> rw [L_tc] <;> exact Finset.mem_range.mpr (by omega))
    (fun p hp => by rw [Finset.mem_singleton.mp hp]; exact le_rfl)
    (fun g u hg => by
      rcases O_pos hg with ⟨x, h1, h2, rfl, rfl⟩ | ⟨x, h1, h2, rfl, rfl⟩
      · rw [lv_rcv]; omega
      · rw [lv_crd]; omega)

/-- A wait on a cell of level 0 while the barrier units are owed too. -/
theorem mayWait₀ (c : Dev nD) (sm : SemLoc sig) (hs : lvOf sm 0 = 0) :
    (levAts L lv : sProp 𝕄) ⊢ MayWait (c : Thread nD τ) sm 0 (O₀ c) := by
  have hO : ∀ (g : GSem nD τ sig) (u : ℕ), 0 < O₀ c g u → u ∈ L g ∧ 0 < lv g u := fun g u hg => by
    unfold O₀ at hg
    rw [Pi.add_apply, Finsupp.add_apply, Pi.add_apply, Finsupp.add_apply] at hg
    by_cases h1 : 0 < O c 0 0 g u
    · rcases O_pos h1 with ⟨x, _, h2, rfl, rfl⟩ | ⟨x, _, h2, rfl, rfl⟩
      · exact ⟨by rw [L_tc]; exact Finset.mem_range.mpr (by omega), by rw [lv_rcv]; omega⟩
      · exact ⟨by rw [L_tc]; exact Finset.mem_range.mpr (by omega), by rw [lv_crd]; omega⟩
    · by_cases h2 : 0 < (tallyAt (barC (nxt c)) 0 1 : CellTallies nD τ sig ℕ) g u
      · obtain ⟨rfl, rfl⟩ := tally_pos h2
        exact ⟨by rw [L_tc]; exact Finset.mem_range.mpr (by omega), by rw [lv_bar]; omega⟩
      · obtain ⟨rfl, rfl⟩ := tally_pos (show 0 < (tallyAt (barC (prv c)) 0 1 : CellTallies nD τ sig ℕ) g u by omega)
        exact ⟨by rw [L_tc]; exact Finset.mem_range.mpr (by omega), by rw [lv_bar]; omega⟩
  exact MayOwe.of_cut (L := L) (lev := lv) 0
    (fun p hp => by rw [Finset.mem_singleton.mp hp, L_tc]; exact Finset.mem_range.mpr (by omega))
    (fun g u hg => (hO g u hg).1)
    (fun p hp => by rw [Finset.mem_singleton.mp hp]; exact le_of_eq hs)
    (fun g u hg => (hO g u hg).2)

end Cert.RingProof

end
-- ==== Proof.Steps.lean ====
/-
# The ring's steps

One rule for each kind of step, stated for every step number `g`: the credit wait, the transfer to the device after, the two
waits that end it, the credit to the device before, the local copy of a chunk of `x`, and loads and stores of a slot.
-/
module

public import proofs.«01_k».proof.Proof.Common

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## The cells' invariants -/

/-- The nine cells of a device: barrier, three send, three receive, chunk, credit. -/
def csem (k : Fin 9) : SemLoc sig :=
  if k.val = 0 then .reg bS else if k.val = 8 then .reg cS else .dma ⟨(k.val + 3) % 11, by show _ < 11; omega⟩
abbrev kcell (ck : Dev nD × Fin 9) : GSem nD τ sig := ((ck.1 : Thread nD τ), csem ck.2)

theorem kcell_bar (c : Dev nD) : kcell (c, 0) = barC c := rfl
theorem kcell_crd (c : Dev nD) : kcell (c, 8) = crdC c := rfl
theorem kcell_x (c : Dev nD) : kcell (c, 7) = xC c := rfl
theorem kcell_snd (c : Dev nD) (g : ℕ) : kcell (c, ⟨1 + g % 3, by omega⟩) = sndC c g := by
  refine Prod.ext rfl ?_
  show (if 1 + g % 3 = 0 then _ else if 1 + g % 3 = 8 then _ else _) = _
  rw [if_neg (by omega), if_neg (by omega)]
  exact congrArg SemLoc.dma (Fin.ext (by show (1 + g % 3 + 3) % 11 = 4 + g % 3; omega))
theorem kcell_rcv (c : Dev nD) (g : ℕ) : kcell (c, ⟨4 + g % 3, by omega⟩) = rcvC c g := by
  refine Prod.ext rfl ?_
  show (if 4 + g % 3 = 0 then _ else if 4 + g % 3 = 8 then _ else _) = _
  rw [if_neg (by omega), if_neg (by omega)]
  exact congrArg SemLoc.dma (Fin.ext (by show (4 + g % 3 + 3) % 11 = 7 + g % 3; omega))

/-- What every device may look at: each cell's invariant, the levels, and that each cell is at round 0. -/
def ctx : sProp 𝕄 :=
  iprop((bigSep Finset.univ fun ck : Dev nD × Fin 9 => iprop(∃ κ : ℕ, cellInv ER (Rd m) κ (kcell ck))) ∗ levAts L lv
    ∗ bigSep Finset.univ fun ck : Dev nD × Fin 9 => reached ER (kcell ck) 0)

instance ctx_persistent : BI.Persistent (ctx (F := F) m) := by unfold ctx; infer_instance

theorem ctx_inv (ck : Dev nD × Fin 9) : ctx (F := F) m ⊢ iprop(∃ κ : ℕ, cellInv ER (Rd m) κ (kcell ck)) := by
  unfold ctx; exact sep_elim_left.trans (bigSep_elim (Finset.mem_univ ck))
theorem ctx_lev : ctx (F := F) m ⊢ levAts L lv := by
  unfold ctx; exact sep_elim_right.trans sep_elim_left
theorem ctx_reached (ck : Dev nD × Fin 9) : ctx (F := F) m ⊢ reached ER (kcell ck) 0 := by
  unfold ctx; exact sep_elim_right.trans (sep_elim_right.trans (bigSep_elim (Finset.mem_univ ck)))

theorem inv_bar (c : Dev nD) : ctx (F := F) m ⊢ iprop(∃ κ : ℕ, cellInv ER (Rd m) κ (barC c)) := ctx_inv m (c, 0)
theorem inv_crd (c : Dev nD) : ctx (F := F) m ⊢ iprop(∃ κ : ℕ, cellInv ER (Rd m) κ (crdC c)) := ctx_inv m (c, 8)
theorem inv_x (c : Dev nD) : ctx (F := F) m ⊢ iprop(∃ κ : ℕ, cellInv ER (Rd m) κ (xC c)) := ctx_inv m (c, 7)
theorem inv_snd (c : Dev nD) (g : ℕ) : ctx (F := F) m ⊢ iprop(∃ κ : ℕ, cellInv ER (Rd m) κ (sndC c g)) := by
  rw [← kcell_snd]; exact ctx_inv m _
theorem inv_rcv (c : Dev nD) (g : ℕ) : ctx (F := F) m ⊢ iprop(∃ κ : ℕ, cellInv ER (Rd m) κ (rcvC c g)) := by
  rw [← kcell_rcv]; exact ctx_inv m _

/-! ## Positions and tokens -/

/-- The owner's position at the start of round `r` of a cell, and that the round is reached. -/
def pos (g : GSem nD τ sig) (r : ℕ) : sProp 𝕄 := iprop(atPos ER g r ∅ 0 ∗ reached ER g r)
abbrev posS (c : Dev nD) (g : ℕ) : sProp 𝕄 := pos (F := F) (sndC c g) (g / 3)
abbrev posR (c : Dev nD) (g : ℕ) : sProp 𝕄 := pos (F := F) (rcvC c g) (g / 3)
abbrev posX (c : Dev nD) (n : ℕ) : sProp 𝕄 := pos (F := F) (xC c) n
abbrev posC (c : Dev nD) (k : ℕ) : sProp 𝕄 := pos (F := F) (crdC c) k

theorem sS_next (g : ℕ) : sS (g + 3) = sS g := Fin.ext (by show 4 + (g + 3) % 3 = 4 + g % 3; omega)
theorem rS_next (g : ℕ) : rS (g + 3) = rS g := Fin.ext (by show 7 + (g + 3) % 3 = 7 + g % 3; omega)
theorem posS_next (c : Dev nD) (g : ℕ) : posS (F := F) c (g + 3) = pos (sndC c g) (g / 3 + 1) := by
  unfold posS sndC; rw [sS_next, show (g + 3) / 3 = g / 3 + 1 by omega]
theorem posR_next (c : Dev nD) (g : ℕ) : posR (F := F) c (g + 3) = pos (rcvC c g) (g / 3 + 1) := by
  unfold posR rcvC; rw [rS_next, show (g + 3) / 3 = g / 3 + 1 by omega]

/-- The duties device `c` pays and the credit it spends. -/
abbrev tokS (c : Dev nD) (g : ℕ) : sProp 𝕄 := dutyTok ER (sndC c g) (g / 3) false
abbrev tokR (c : Dev nD) (g : ℕ) : sProp 𝕄 := dutyTok ER (rcvC (nxt c) g) (g / 3) false
abbrev tokC (c : Dev nD) (k : ℕ) : sProp 𝕄 := dutyTok ER (crdC (prv c)) k false
abbrev tokX (c : Dev nD) (n : ℕ) : sProp 𝕄 := dutyTok ER (xC c) n false
abbrev crS (c : Dev nD) (g : ℕ) : sProp 𝕄 := cred (tallyAt (sndC c g) (g / 3) N)
abbrev crR (c : Dev nD) (g : ℕ) : sProp 𝕄 := cred (tallyAt (rcvC c g) (g / 3) N)
abbrev crC (c : Dev nD) (k : ℕ) : sProp 𝕄 := cred (tallyAt (crdC c) k 1)

/-- Device `c` owes `o`. -/
def owing (c : Dev nD) (o : CellTallies nD τ sig ℕ) : sProp 𝕄 := iprop(∃ W, owes (c : Thread nD τ) o W)

/-- All of device `c`'s `x`; the chunk buffer at any contents. -/
def xAll (c : Dev nD) : sProp 𝕄 := ((c : Thread nD τ).loc main_arg0) ↦{fullShare} (m ((c : Thread nD τ).loc main_arg0))
def xbufAny (c : Dev nD) : sProp 𝕄 := iprop(∃ v, xbuf (F := F) c v)

/-! ## Views -/

theorem read_copy_reshape {κ κ' : Kind} {sp sp' : Space} {s s' : Shape} {e : EltTy} (v : View sig κ sp s e) (v' : View sig κ' sp' s e)
    (h : s'.numel = s.numel) (f : v.ty.Contents (Elt F)) (f' : v'.ty.Contents (Elt F)) :
    v.read (Elt F) ((v.reshape s' h).write (Elt F) f ((v'.reshape s' h).read (Elt F) f') Finset.univ) = v'.read (Elt F) f' := by
  funext y
  obtain ⟨x, rfl⟩ := (Shape.reshapeEquiv h).surjective y
  rw [View.read_write_reshape]; rfl

/-- The squeezed slot has the slot's elements. -/
theorem pts_squeeze (c : Dev nD) (g : ℕ) (f : Buf (Elt F) ((c : Thread nD τ).loc cc0_scratch1)) :
    (((slM g).squeeze S2048x512 squeezes_S1x2048x512_S2048x512).view.loc (c : Thread nD τ)
        ↦[((slM g).squeeze S2048x512 squeezes_S1x2048x512_S2048x512).view.set]{fullShare} f : sProp 𝕄)
      = ((slM g).view.loc (c : Thread nD τ) ↦[(slM g).view.set]{fullShare} f) := by
  have h : ((slM g).squeeze S2048x512 squeezes_S1x2048x512_S2048x512).view.set = (slM g).view.set := View.set_reshape _ _
  rw [h]

theorem pts_xbuf (c : Dev nD) (f : Buf (Elt F) ((c : Thread nD τ).loc cc0_scratch0)) :
    (bM.view.loc (c : Thread nD τ) ↦[bM.view.set]{fullShare} f : sProp 𝕄) = (((c : Thread nD τ).loc cc0_scratch0) ↦{fullShare} f) := by
  have h : bM.view.set = Finset.univ := View.set_whole _
  rw [h]

theorem slot_congr (c : Dev nD) {g g' : ℕ} (h : g % 2 = g' % 2) (v) : slot (F := F) c g v = slot c g' v := by
  have hr : slR g = slR g' := by unfold slR; congr 2
  unfold slot
  congr 1
  unfold slM
  congr 1
theorem slotAny_congr (c : Dev nD) {g g' : ℕ} (h : g % 2 = g' % 2) : slotAny (F := F) c g = slotAny c g' := by
  unfold slotAny; congr 1; funext v; exact slot_congr c h v

section Steps

variable (c : Dev nD)

/-! ## Waits -/

theorem wp_creditWait {α : Type} {Q : α → sProp 𝕄} {k : PUnit → Prog (TpuEff nD τ sig (Elt F) Λ₀ .tc) α}
    (g : ℕ) (h1 : 1 ≤ g) (h2 : g < 24) {sm : Sem sig} (hs : sm = cS) {n : ℤ} (hn : n = ((1 : ℕ) : ℤ)) :
    iprop(ctx m ∗ crC c (g - 1) ∗ posC c (g - 1) ∗ owing c (O c g g))
      ⊢ iprop(((nbr c g ∗ posC c g ∗ owing c (O c g g)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm n) k) Q) := by
  subst hs hn
  obtain ⟨g, rfl⟩ : ∃ g', g = g' + 1 := ⟨g - 1, by omega⟩
  simp only [owing, posS, posR, posC, posX, pos]
  iintro ⟨#Hx, Hc, ⟨Hat, -⟩, ⟨%W, HO⟩⟩ Hk
  ihave HI := (inv_crd m c) $$ Hx
  icases HI with ⟨%κ, #HI⟩
  iapply (Rounds.wp_wait_rest_token 𝒱₀ ER (Rd m) (c : Thread nD τ) none (κ := κ)
      (wpE_semWait_eq 𝒱₀ (c : Thread nD τ) none Set.univ) (Set.mem_univ _) g (O := O c (g + 1) (g + 1)) (W := W) (R := g) (m := 0) (T := ∅)
      (by rw [expect_one m (duties_crd m c (by omega)) (amount_crd m c g false)])) $$ [Hc HO Hat]
  · isplitr; · iexact HI
    isplitl [Hc]; · iexact Hc
    isplitl [HO]; · iexact HO
    isplitr
    · iapply (mayWait c (.reg cS) g (g + 1) (g + 1) (by omega) (show 2 * g + 3 < _ by omega) (show 2 * g + 3 < _ by omega))
      iapply (ctx_lev m); iexact Hx
    iexact Hat
  iintro ⟨HO, Hat, Hr, Hpay⟩
  ihave Hp := (Entails.of_eq (rest_one m (duties_crd m c (by omega)) (payload_crd m c g false))) $$ Hpay
  iapply Hk
  isplitl [Hp]; · iexact Hp
  isplitl [Hat Hr]
  · isplitl [Hat] <;> iassumption
  iexists _; iexact HO

theorem wp_sendWait {α : Type} {Q : α → sProp 𝕄} {k : PUnit → Prog (TpuEff nD τ sig (Elt F) Λ₀ .tc) α}
    (g a b : ℕ) (h2 : g < 24) {sm : DmaSem sig} (hs : sm = sS g) {sp sp' : Space} {s s' : Shape} {e e' : EltTy}
    {src : Memref sig .tc sp s e} {dst : Memref sig .tc sp' s' e'} {hsrc : src.view.WordExact} {hdst : dst.view.WordExact} (hN : dst.view.dmaCredit = N) :
    iprop(ctx m ∗ crS c g ∗ posS c g ∗ owing c (O c a b))
      ⊢ iprop(((slotAny c g ∗ posS c (g + 3) ∗ owing c (O c a b)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  rw [posS_next]
  simp only [owing, posS, posR, posC, posX, pos]
  iintro ⟨#Hx, Hc, ⟨Hat, -⟩, ⟨%W, HO⟩⟩ Hk
  ihave HI := (inv_snd m c g) $$ Hx
  icases HI with ⟨%κ, #HI⟩
  iapply (Rounds.wp_wait_rest_token 𝒱₀ ER (Rd m) (c : Thread nD τ) none (κ := κ)
      (wpE_waitDma2_eq 𝒱₀ (c : Thread nD τ) none Set.univ) (Set.mem_univ _) (g / 3) (O := O c a b) (W := W) (R := g / 3) (m := 0) (T := ∅)
      (by rw [expect_one m (duties_snd m c h2) (amount_snd m c g (g / 3) false), Nat.zero_add, hN])) $$ [Hc HO Hat]
  · isplitr; · iexact HI
    isplitl [Hc]; · rw [hN]; iexact Hc
    isplitl [HO]; · iexact HO
    isplitr
    · iapply (mayWait c (.dma (sS g)) (g / 3) a b (by omega) (by rw [show lvOf (.dma (sS g)) (g / 3) = 0 from lv_snd c g _]; omega)
        (by rw [show lvOf (.dma (sS g)) (g / 3) = 0 from lv_snd c g _]; omega))
      iapply (ctx_lev m); iexact Hx
    iexact Hat
  iintro ⟨HO, Hat, Hr, Hpay⟩
  ihave Hp := (Entails.of_eq (rest_one m (duties_snd m c h2) (payload_snd m c g false))) $$ Hpay
  unfold sendPay
  iapply Hk
  isplitl [Hp]; · iexact Hp
  isplitl [Hat Hr]
  · isplitl [Hat] <;> iassumption
  iexists _; iexact HO

theorem wp_recvWait {α : Type} {Q : α → sProp 𝕄} {k : PUnit → Prog (TpuEff nD τ sig (Elt F) Λ₀ .tc) α}
    (g : ℕ) (h2 : g < 24) {sm : DmaSem sig} (hs : sm = rS g) {sp sp' : Space} {s s' : Shape} {e e' : EltTy}
    {src : Memref sig .tc sp s e} {dst : Memref sig .tc sp' s' e'} {hsrc : src.view.WordExact} {hdst : dst.view.WordExact} (hN : dst.view.dmaCredit = N) :
    iprop(ctx m ∗ crR c g ∗ posR c g ∗ owing c (O c (g + 1) g))
      ⊢ iprop(((slot c (g + 1) (acc m (prv c) g) ∗ reached ER (crdC (prv c)) g ∗ posR c (g + 3) ∗ owing c (O c (g + 1) g))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  rw [posR_next]
  simp only [owing, posS, posR, posC, posX, pos]
  iintro ⟨#Hx, Hc, ⟨Hat, -⟩, ⟨%W, HO⟩⟩ Hk
  ihave HI := (inv_rcv m c g) $$ Hx
  icases HI with ⟨%κ, #HI⟩
  iapply (Rounds.wp_wait_rest_token 𝒱₀ ER (Rd m) (c : Thread nD τ) none (κ := κ)
      (wpE_waitDma2_eq 𝒱₀ (c : Thread nD τ) none Set.univ) (Set.mem_univ _) (g / 3) (O := O c (g + 1) g) (W := W) (R := g / 3) (m := 0) (T := ∅)
      (by rw [expect_one m (duties_rcv m c h2) (amount_rcv m c g (g / 3) false), Nat.zero_add, hN])) $$ [Hc HO Hat]
  · isplitr; · iexact HI
    isplitl [Hc]; · rw [hN]; iexact Hc
    isplitl [HO]; · iexact HO
    isplitr
    · iapply (mayWait c (.dma (rS g)) (g / 3) (g + 1) g (by omega) (by rw [show lvOf (.dma (rS g)) (g / 3) = 2 * g + 2 from lv_rcv c g]; omega)
        (by rw [show lvOf (.dma (rS g)) (g / 3) = 2 * g + 2 from lv_rcv c g]; omega))
      iapply (ctx_lev m); iexact Hx
    iexact Hat
  iintro ⟨HO, Hat, Hr, Hpay⟩
  ihave Hp := (Entails.of_eq (rest_one m (duties_rcv m c h2) (payload_rcv m c g false))) $$ Hpay
  unfold recvPay
  icases Hp with ⟨Hp, Hrc⟩
  iapply Hk
  isplitl [Hp]; · iexact Hp
  isplitl [Hrc]; · iexact Hrc
  isplitl [Hat Hr]
  · isplitl [Hat] <;> iassumption
  iexists _; iexact HO

/-! ## The credit to the device before -/

theorem wp_creditSignal {α : Type} {Q : α → sProp 𝕄} {k : PUnit → Prog (TpuEff nD τ sig (Elt F) Λ₀ .tc) α}
    (g : ℕ) (h2 : g < 23) {sm : Sem sig} (hs : sm = cS) {n : Dev nD} (hn : n = prv c) {z : ℤ} (hz : z = ((1 : ℕ) : ℤ)) :
    iprop(ctx m ∗ tokC c g ∗ slotAny c g ∗ reached ER (rcvC c (g + 1)) ((g + 1) / 3) ∗ reached ER (crdC (prv c)) g ∗ owing c (O c (g + 1) g))
      ⊢ iprop((owing c (O c (g + 1) (g + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) sm z) k) Q) := by
  subst hs hn hz
  unfold owing
  iintro ⟨#Hx, Ht, Hs, Hr, Hrc, ⟨%W, HO⟩⟩ Hk
  ihave HI := (inv_crd m (prv c)) $$ Hx
  icases HI with ⟨%κ, #HI⟩
  iapply (Rounds.wp_signal 𝒱₀ ER (Rd m) (c : Thread nD τ) none (dst := (prv c : Thread nD τ)) (κ := κ)
      (d := false) (by rw [duties_crd m (prv c) h2]; exact Finset.mem_singleton_self _) (amount_crd m (prv c) g false) g (O c (g + 1) (g + 1)) (O_credit c h2))
    $$ [HO Ht Hs Hr Hrc]
  · isplitr; · iexact HI
    isplitl [HO]; · iexact HO
    isplitl [Ht]; · iexact Ht
    isplitl [Hs Hr]
    · rw [payload_crd]; unfold nbr; rw [nxt_prv, slotAny_congr c (show (g + 1 + 1) % 2 = g % 2 by omega)]
      isplitl [Hs] <;> iassumption
    · iexact Hrc
  iintro HO
  iapply Hk
  iexists W; iexact HO

/-! ## The transfer -/

theorem wp_sendStep {α : Type} {Q : α → sProp 𝕄} {k : PUnit → Prog (TpuEff nD τ sig (Elt F) Λ₀ .tc) α}
    (g : ℕ) (h2 : g < 24) (v : Vec F S1x2048x512 .bf16) (hv : v = acc m c g) {sm sm' : DmaSem sig} (hs : sm = rS g) (hs' : sm' = sS g)
    {n : Dev nD} (hn : n = nxt c)
    {off off' : Fin 3 → ℕ} (ho : off = ![g % 2, 0, 0]) (ho' : off' = ![(g + 1) % 2, 0, 0])
    {hb : ∀ a, off a + S1x2048x512.size a ≤ S2x2048x512.size a} {hb' : ∀ a, off' a + S1x2048x512.size a ≤ S2x2048x512.size a}
    {hr : ∀ a, (Rect.unit (s := S2x2048x512) off S1x2048x512.size hb).stride a = 1} {hr' : ∀ a, (Rect.unit (s := S2x2048x512) off' S1x2048x512.size hb').stride a = 1}
    {hsc : (((kM.slice (Rect.unit (s := S2x2048x512) off' S1x2048x512.size hb') hr' : Memref sig .tc .vmem S1x2048x512 .bf16).squeeze S2048x512 squeezes_S1x2048x512_S2048x512 :
        Memref sig (Dev.tc n : Thread nD τ).2.kind .vmem S2048x512 .bf16)).view.ref.isScScratch = false}
    {hsrc : ((kM.slice (Rect.unit (s := S2x2048x512) off S1x2048x512.size hb) hr : Memref sig .tc .vmem S1x2048x512 .bf16).squeeze S2048x512 squeezes_S1x2048x512_S2048x512).view.WordExact}
    {hdst : ((kM.slice (Rect.unit (s := S2x2048x512) off' S1x2048x512.size hb') hr' : Memref sig .tc .vmem S1x2048x512 .bf16).squeeze S2048x512 squeezes_S1x2048x512_S2048x512).view.WordExact}
    {hsem : DmaTarget.Typed .vmem (.dma sm) (.remote (Dev.tc n : Thread nD τ)
        ((kM.slice (Rect.unit (s := S2x2048x512) off' S1x2048x512.size hb') hr' : Memref sig .tc .vmem S1x2048x512 .bf16).squeeze S2048x512 squeezes_S1x2048x512_S2048x512) (.dma sm') hsc)} :
    iprop(ctx m ∗ slot c g v ∗ nbr c g ∗ posS c g ∗ posC c g ∗ tokS c g ∗ tokR c g ∗ owing c (O c g g))
      ⊢ iprop(((crS c g ∗ posS c g ∗ posC c g ∗ owing c (O c (g + 1) g)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((kM.slice (Rect.unit (s := S2x2048x512) off S1x2048x512.size hb) hr : Memref sig .tc .vmem S1x2048x512 .bf16).squeeze S2048x512 squeezes_S1x2048x512_S2048x512)
                (.remote (Dev.tc n : Thread nD τ)
                  ((kM.slice (Rect.unit (s := S2x2048x512) off' S1x2048x512.size hb') hr' : Memref sig .tc .vmem S1x2048x512 .bf16).squeeze S2048x512 squeezes_S1x2048x512_S2048x512) (.dma sm') hsc)
                (.dma sm) hsrc hdst hsem) k) Q) := by
  subst hs hs' hn ho ho'
  simp only [owing, posS, posR, posC, posX, pos]
  unfold nbr slotAny slot owns
  iintro ⟨#Hx, ⟨%fs, %hfs, Hs⟩, ⟨⟨%v', %fd, -, Hd⟩, #Hrr⟩, ⟨HaS, #HrS⟩, ⟨HaC, #HrC⟩, HtS, HtR, ⟨%W, HO⟩⟩ Hk
  ihave HI := (inv_snd m c g) $$ Hx
  icases HI with ⟨%κ₁, #HI₁⟩
  ihave HI := (inv_rcv m (nxt c) g) $$ Hx
  icases HI with ⟨%κ₂, #HI₂⟩
  iapply (Rounds.wp_send_pointsTo_with 𝒱₀ ER (Rd m) (c : Thread nD τ) none (c' := (nxt c : Thread nD τ))
      (src := (slM g).squeeze S2048x512 squeezes_S1x2048x512_S2048x512) (dst := (slM (g + 1)).squeeze S2048x512 squeezes_S1x2048x512_S2048x512)
      (κ₁ := κ₁) (κ₂ := κ₂) (r₁ := g / 3) (r₂ := g / 3) (d₁ := false) (d₂ := false) (fs := fs) (fd := by exact fd) (q := fullShare) (F := reached ER (crdC c) g)
      (by rw [duties_snd m c h2]; exact Finset.mem_singleton_self _) (by rw [duties_rcv m (nxt c) h2]; exact Finset.mem_singleton_self _)
      (g / 3) (g / 3) N (by unfold N; rfl) (amount_snd m c g _ false) (amount_rcv m (nxt c) g _ false) (O c (g + 1) g) (O_send c h2) (W := W)
      (by
        rw [payload_snd]; unfold sendPay slotAny slot owns
        iintro H
        iexists _; iexists fs
        isplitr; · (ipureintro; rfl)
        iapply (Entails.of_eq (pts_squeeze c g fs)); iexact H)
      (by
        rw [payload_rcv]; unfold recvPay slot owns; rw [prv_nxt]
        iintro ⟨H, Hr⟩
        isplitl [H]
        · iexists _
          isplitr; rotate_left
          · iapply (Entails.of_eq (pts_squeeze (nxt c) (g + 1) _)); iexact H
          · ipureintro; exact (read_copy_reshape _ _ _ _ _).trans (hfs.trans hv)
        · iexact Hr)) $$ [Hs Hd HO HtS HtR]
  · isplitr; · iexact HI₁
    isplitr; · iexact HI₂
    isplitl [Hs]; · iapply (Entails.of_eq (pts_squeeze c g fs).symm); iexact Hs
    isplitl [Hd]
    · isplitl [Hd]; · iapply (Entails.of_eq (pts_squeeze (nxt c) (g + 1) fd).symm); iexact Hd
      iexact HrC
    isplitl [HO]; · iexact HO
    isplitl [HtS]; · iexact HtS
    isplitr; · iexact HrS
    isplitl [HtR]; · iexact HtR
    iexact Hrr
  iintro ⟨Hc, HO⟩
  iapply Hk
  isplitl [Hc]; · iexact Hc
  isplitl [HaS]; · isplitl [HaS]; · iexact HaS
                   iexact HrS
  isplitl [HaC]; · isplitl [HaC]; · iexact HaC
                   iexact HrC
  iexists W; iexact HO

/-! ## The copy of a chunk of `x` -/

theorem wp_xcopy {α : Type} {Q : α → sProp 𝕄} {k : PUnit → Prog (TpuEff nD τ sig (Elt F) Λ₀ .tc) α}
    (n : ℕ) (h2 : n < 32) (a b : ℕ) {sm sm' : DmaSem sig} (hs : sm = xS) (hs' : sm' = xS)
    {off : Fin 2 → ℕ} (ho : off = ![xrow c n, 0]) {hb : ∀ a, off a + S2048x2048.size a ≤ S8192x2048.size a}
    {hr : ∀ a, (Rect.unit (s := S8192x2048) off S2048x2048.size hb).stride a = 1}
    {hsrc : (xM.slice (Rect.unit (s := S8192x2048) off S2048x2048.size hb) hr : Memref sig .tc .hbm S2048x2048 .bf16).view.WordExact}
    {hdst : bM.view.WordExact} {hsem : DmaTarget.Typed (nD := nD) .hbm (.dma sm) (.here (p := (Proc.tc : Proc τ)) bM)}
    {sp sp' : Space} {s s' : Shape} {e e' : EltTy} {src : Memref sig .tc sp s e} {dst : Memref sig .tc sp' s' e'}
    {hsrc' : src.view.WordExact} {hdst' : dst.view.WordExact} (hN : dst.view.dmaCredit = NX) :
    iprop(ctx m ∗ tokX c n ∗ posX c n ∗ xAll m c ∗ xbufAny c ∗ owing c (O c a b))
      ⊢ iprop(((xbuf c (xch m c n) ∗ posX c (n + 1) ∗ xAll m c ∗ owing c (O c a b)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S8192x2048) off S2048x2048.size hb) hr : Memref sig .tc .hbm S2048x2048 .bf16) (.here bM) (.dma sm) hsrc hdst hsem)
                fun _ => .op (.waitDma2 sm' src dst hsrc' hdst') k) Q) := by
  subst hs hs' ho
  simp only [owing, posX, pos]
  unfold xAll xbufAny xbuf
  iintro ⟨#Hx, Ht, ⟨Hat, #Hr⟩, Hxs, ⟨%v, Hb⟩, ⟨%W, HO⟩⟩ Hk
  ihave HI := (inv_x m c) $$ Hx
  icases HI with ⟨%κ, #HI⟩
  ihave Hxs' := (pointsTo_split_subset (Finset.subset_univ (xsM c n).view.set)).1 $$ Hxs
  icases Hxs' with ⟨Hxr, Hxo⟩
  iapply (Rounds.wp_copy_pointsTo 𝒱₀ ER (Rd m) (c : Thread nD τ) none (src := xsM c n) (dst := bM) (κ := κ) (r := n) (d := false) (q := fullShare)
      (fs := m ((c : Thread nD τ).loc main_arg0)) (fd := v)
      (by rw [duties_x m c h2]; exact Finset.mem_singleton_self _) n NX (by unfold NX; rfl) (amount_x m c n false)
      (by
        rw [payload_x]; unfold xPay xbuf xrows
        iintro ⟨H1, H2⟩
        isplitl [H1]
        · iapply (Entails.of_eq (pts_xbuf c _)); rw [show bM.view.write (Elt F) v _ Finset.univ = _ from View.write_whole_univ _ _ _]; iexact H1
        · iexact H2)) $$ [Hxr Hb Ht]
  · isplitr; · iexact HI
    isplitl [Hxr]; · iexact Hxr
    isplitl [Hb]; · iapply (Entails.of_eq (pts_xbuf c v).symm); iexact Hb
    isplitl [Ht]; · iexact Ht
    iexact Hr
  iintro Hc
  iapply (Rounds.wp_wait_rest_token 𝒱₀ ER (Rd m) (c : Thread nD τ) none (κ := κ)
      (wpE_waitDma2_eq 𝒱₀ (c : Thread nD τ) none Set.univ) (Set.mem_univ _) n (O := O c a b) (W := W) (R := n) (m := 0) (T := ∅)
      (by rw [expect_one m (duties_x m c h2) (amount_x m c n false), Nat.zero_add, hN])) $$ [Hc HO Hat]
  · isplitr; · iexact HI
    isplitl [Hc]; · rw [hN]; iexact Hc
    isplitl [HO]; · iexact HO
    isplitr
    · iapply (mayWait c (.dma xS) n a b (by omega) (by rw [show lvOf (.dma xS) n = 0 from lv_x c n]; omega)
        (by rw [show lvOf (.dma xS) n = 0 from lv_x c n]; omega))
      iapply (ctx_lev m); iexact Hx
    iexact Hat
  iintro ⟨HO, Hat, Hr', Hpay⟩
  ihave Hp := (Entails.of_eq (rest_one m (duties_x m c h2) (payload_x m c n false))) $$ Hpay
  unfold xPay xbuf xrows
  icases Hp with ⟨Hb, Hxr⟩
  iapply Hk
  isplitl [Hb]; · iexact Hb
  isplitl [Hat Hr']
  · isplitl [Hat] <;> iassumption
  isplitl [Hxr Hxo]
  · iapply (pointsTo_split_subset (Finset.subset_univ (xsM c n).view.set)).2
    isplitl [Hxr] <;> iassumption
  iexists _; iexact HO

/-! ## Loads and stores -/

theorem wp_loadSlot {α : Type} {Q : α → sProp 𝕄} (g : ℕ) {off : Fin 3 → ℕ} (ho : off = ![g % 2, 0, 0])
    {hb : ∀ a, off a + S1x2048x512.size a ≤ S2x2048x512.size a} {hl : kM.view.LoadsAt (Rect.unit (s := S2x2048x512) off S1x2048x512.size hb).toLoadRect}
    {k : Vec F S1x2048x512 .bf16 → Prog (TpuEff nD τ sig (Elt F) Λ₀ .tc) α} (v : Vec F S1x2048x512 .bf16) :
    slot c g v ⊢ iprop((slot c g v -∗ wp frame (wpE (defs₀ (F := F)) 𝒱₀ (c : Thread nD τ) none) Set.univ (k v) Q)
        -∗ wp frame (wpE (defs₀ (F := F)) 𝒱₀ (c : Thread nD τ) none) Set.univ (.op (.load kM (Rect.unit (s := S2x2048x512) off S1x2048x512.size hb).toLoadRect hl) k) Q) := by
  subst ho
  unfold slot owns
  iintro ⟨%f, %hf, H⟩ Hk
  iapply (wp_load_rect 𝒱₀ (c : Thread nD τ) none Set.univ (m := kM) (r := slR g) (S := (slM g).view.set) (f := f) subset_rfl) $$ H
  iintro H
  rw [show (kM.access (slR g)).read (Elt F) f = v from hf]
  iapply Hk
  iexists f
  isplitr; · (ipureintro; exact hf)
  iexact H

theorem wp_storeSlot {α : Type} {Q : α → sProp 𝕄} (g : ℕ) {off : Fin 3 → ℕ} (ho : off = ![g % 2, 0, 0])
    {hb : ∀ a, off a + S1x2048x512.size a ≤ S2x2048x512.size a} {w : Vec F S1x2048x512 .bf16}
    {hx : (kM.access (Rect.unit (s := S2x2048x512) off S1x2048x512.size hb)).Stores Finset.univ}
    {hm : (Finset.univ : Finset (Rect.unit (s := S2x2048x512) off S1x2048x512.size hb).shape.Idx) = Finset.univ ∨ ∀ a, (Rect.unit (s := S2x2048x512) off S1x2048x512.size hb).stride a = 1}
    {k : PUnit → Prog (TpuEff nD τ sig (Elt F) Λ₀ .tc) α} (v : Vec F S1x2048x512 .bf16) :
    slot c g v ⊢ iprop((slot c g w -∗ wp frame (wpE (defs₀ (F := F)) 𝒱₀ (c : Thread nD τ) none) Set.univ (k ⟨⟩) Q)
        -∗ wp frame (wpE (defs₀ (F := F)) 𝒱₀ (c : Thread nD τ) none) Set.univ (.op (.store kM (Rect.unit (s := S2x2048x512) off S1x2048x512.size hb) w Finset.univ hx hm) k) Q) := by
  subst ho
  unfold slot owns
  iintro ⟨%f, %hf, H⟩ Hk
  iapply (wp_store 𝒱₀ (c : Thread nD τ) none Set.univ (m := kM) (r := slR g) (Mk := Finset.univ) (S := (slM g).view.set) (f := f) subset_rfl) $$ H
  iintro H
  iapply Hk
  iexists _
  isplitr; rotate_left
  · iexact H
  · ipureintro; exact View.read_write_univ _ _

/-- A load of all of a memref, and a store to all of one. -/
theorem wp_loadAll {α : Type} {Q : α → sProp 𝕄} {s : Shape} {e : EltTy} (mm : Memref sig .tc .vmem s e) {off : Fin s.rank → ℕ} (ho : off = fun _ => 0)
    {hb : ∀ a, off a + s.size a ≤ s.size a} {hl : mm.view.LoadsAt (Rect.unit (s := s) off s.size hb).toLoadRect}
    {k : (s.Idx → Elt F e) → Prog (TpuEff nD τ sig (Elt F) Λ₀ .tc) α} (v : s.Idx → Elt F e) :
    (owns (c : Thread nD τ) mm fullShare v : sProp 𝕄)
      ⊢ iprop((owns (c : Thread nD τ) mm fullShare v -∗ wp frame (wpE (defs₀ (F := F)) 𝒱₀ (c : Thread nD τ) none) Set.univ (k v) Q)
        -∗ wp frame (wpE (defs₀ (F := F)) 𝒱₀ (c : Thread nD τ) none) Set.univ (.op (.load mm (Rect.unit (s := s) off s.size hb).toLoadRect hl) k) Q) := by
  subst ho
  unfold owns
  iintro ⟨%f, %hf, H⟩ Hk
  iapply (wp_load_rect 𝒱₀ (c : Thread nD τ) none Set.univ (m := mm) (r := Rect.whole s) (S := mm.view.set) (f := f) (View.set_slice_subset _ _)) $$ H
  iintro H
  rw [show (mm.access (Rect.whole s)).read (Elt F) f = v from by
    rw [← hf]; funext x; show mm.view.read (Elt F) f ((Rect.whole s).emb x) = _; rw [Rect.emb_whole_apply]]
  iapply Hk
  iexists f
  isplitr; · (ipureintro; exact hf)
  iexact H

theorem wp_storeAll {α : Type} {Q : α → sProp 𝕄} {s : Shape} {e : EltTy} (mm : Memref sig .tc .vmem s e) {off : Fin s.rank → ℕ} (ho : off = fun _ => 0)
    {hb : ∀ a, off a + s.size a ≤ s.size a} {w : s.Idx → Elt F e} {hx : (mm.access (Rect.unit (s := s) off s.size hb)).Stores Finset.univ}
    {hm : (Finset.univ : Finset (Rect.unit (s := s) off s.size hb).shape.Idx) = Finset.univ ∨ ∀ a, (Rect.unit (s := s) off s.size hb).stride a = 1}
    {k : PUnit → Prog (TpuEff nD τ sig (Elt F) Λ₀ .tc) α} (v : s.Idx → Elt F e) :
    (owns (c : Thread nD τ) mm fullShare v : sProp 𝕄)
      ⊢ iprop((owns (c : Thread nD τ) mm fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store mm (Rect.unit (s := s) off s.size hb) w Finset.univ hx hm) k) Q) := by
  subst ho
  unfold owns
  iintro ⟨%f, %hf, H⟩ Hk
  iapply (wp_store 𝒱₀ (c : Thread nD τ) none Set.univ (m := mm) (r := Rect.whole s) (Mk := Finset.univ) (S := mm.view.set) (f := f) (View.set_slice_subset _ _)) $$ H
  iintro H
  iapply Hk
  iexists _
  isplitr; rotate_left
  · iexact H
  · ipureintro
    funext x
    have h := View.read_slice_write_emb (v := mm.view) (Rect.whole s) f w (M := Finset.univ) (x := x) (Finset.mem_univ _)
    rw [Rect.emb_whole_apply] at h
    exact h

end Steps

end Cert.RingProof

end
-- ==== Proof.Parts.lean ====
/-
# The kernel body, part by part

The body of one grid point is nine printed parts and a tail. Each part has a lemma here that takes what the part needs and
gives what it leaves, at every grid point `i` of block `j`; steps are numbered `3 * j`, `3 * j + 1`, `3 * j + 2`.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem vec3 {a b : ℕ} (h : a = b) : (![a, 0, 0] : Fin 3 → ℕ) = ![b, 0, 0] := by rw [h]
theorem vec2 {a b : ℕ} (h : a = b) : (![a, 0] : Fin 2 → ℕ) = ![b, 0] := by rw [h]
theorem zero2 : (![0, 0] : Fin 2 → ℕ) = fun _ => 0 := funext fun a => by fin_cases a <;> rfl

/-- The chunks of `x` go round with period four. -/
theorem xrow_congr (c : Dev nD) {n n' : ℕ} (h : n % 4 = n' % 4) : xrow c n = xrow c n' := by unfold xrow; rw [h]
theorem read_chunk (c : Dev nD) {off off' : Fin 2 → ℕ} (h : off = off') {hb : ∀ a, off a + S2048x2048.size a ≤ S8192x2048.size a}
    {hb' : ∀ a, off' a + S2048x2048.size a ≤ S8192x2048.size a} {hr hr'} (f : Buf (Elt F) ((c : Thread nD τ).loc main_arg0)) :
    (xM.slice (Rect.unit (s := S8192x2048) off S2048x2048.size hb) hr : Memref sig .tc .hbm S2048x2048 .bf16).view.read (Elt F) f
      = (xM.slice (Rect.unit (s := S8192x2048) off' S2048x2048.size hb') hr' : Memref sig .tc .hbm S2048x2048 .bf16).view.read (Elt F) f := by
  subst h; rfl
theorem xch_congr (c : Dev nD) {n n' : ℕ} (h : n % 4 = n' % 4) : xch m c n = xch m c n' := by
  unfold xch; exact read_chunk c (by rw [xrow_congr c h]) _

/-- The chunk buffer's ownership as the load rule takes it. -/
theorem xbuf_owns (c : Dev nD) (v : Vec F S2048x2048 .bf16) : (xbuf c v : sProp 𝕄) = owns (c : Thread nD τ) bM fullShare v :=
  (owns_whole (c : Thread nD τ) cc0_scratch0 fullShare v).symm

theorem xbuf_any (c : Dev nD) (v : Vec F S2048x2048 .bf16) : xbuf c v ⊢ (xbufAny c : sProp 𝕄) := by
  unfold xbufAny; iintro H; iexists v; iexact H
theorem slot_any (c : Dev nD) (g : ℕ) (v : Vec F S1x2048x512 .bf16) : slot c g v ⊢ (slotAny c g : sProp 𝕄) := by
  unfold slotAny; iintro H; iexists v; iexact H

theorem sndSem0 (j : ℕ) : ((cc0_scratch2.slice (Rect.unit (s := S3) ![0] S1.size inb_S3_S1_0)).squeeze S_ squeezes_S1_S_).sem = sS (3 * j) :=
  Fin.ext (by show _ = 4 + 3 * j % 3; rw [show 3 * j % 3 = 0 by omega]; rfl)
theorem sndSem1 (j : ℕ) : ((cc0_scratch2.slice (Rect.unit (s := S3) ![1] S1.size inb_S3_S1_1)).squeeze S_ squeezes_S1_S_).sem = sS (3 * j + 1) :=
  Fin.ext (by show _ = 4 + (3 * j + 1) % 3; rw [show (3 * j + 1) % 3 = 1 by omega]; rfl)
theorem sndSem2 (j : ℕ) : ((cc0_scratch2.slice (Rect.unit (s := S3) ![2] S1.size inb_S3_S1_2)).squeeze S_ squeezes_S1_S_).sem = sS (3 * j + 2) :=
  Fin.ext (by show _ = 4 + (3 * j + 2) % 3; rw [show (3 * j + 2) % 3 = 2 by omega]; rfl)
theorem rcvSem0 (j : ℕ) : ((cc0_scratch3.slice (Rect.unit (s := S3) ![0] S1.size inb_S3_S1_0)).squeeze S_ squeezes_S1_S_).sem = rS (3 * j) :=
  Fin.ext (by show _ = 7 + 3 * j % 3; rw [show 3 * j % 3 = 0 by omega]; rfl)
theorem rcvSem1 (j : ℕ) : ((cc0_scratch3.slice (Rect.unit (s := S3) ![1] S1.size inb_S3_S1_1)).squeeze S_ squeezes_S1_S_).sem = rS (3 * j + 1) :=
  Fin.ext (by show _ = 7 + (3 * j + 1) % 3; rw [show (3 * j + 1) % 3 = 1 by omega]; rfl)
theorem rcvSem2 (j : ℕ) : ((cc0_scratch3.slice (Rect.unit (s := S3) ![2] S1.size inb_S3_S1_2)).squeeze S_ squeezes_S1_S_).sem = rS (3 * j + 2) :=
  Fin.ext (by show _ = 7 + (3 * j + 2) % 3; rw [show (3 * j + 2) % 3 = 2 by omega]; rfl)

section Parts

variable (c : Dev nD) (i : grid0.Coords) (j : ℕ) (hj : (i 0).val = j) (hj8 : j < 8)
  (a2 : Memref sig .tc .vmem S2048x512 .bf16) (h2 : a2.IsWhole) (a3 : Memref sig .tc .vmem S2048x512 .f32) (h3 : a3.IsWhole)

theorem wp_loadX {α : Type} {Q : α → sProp 𝕄} {hb} {hl : bM.view.LoadsAt (Rect.unit (s := S2048x2048) ![0, 0] S2048x2048.size hb).toLoadRect}
    {k : Vec F S2048x2048 .bf16 → Prog (TpuEff nD τ sig (Elt F) Λ₀ .tc) α} (v : Vec F S2048x2048 .bf16) :
    xbuf c v ⊢ iprop((xbuf c v -∗ wp frame (wpE (defs₀ (F := F)) 𝒱₀ (c : Thread nD τ) none) Set.univ (k v) Q) -∗ wp frame (wpE (defs₀ (F := F)) 𝒱₀ (c : Thread nD τ) none) Set.univ (.op (.load bM (Rect.unit (s := S2048x2048) ![0, 0] S2048x2048.size hb).toLoadRect hl) k) Q) := by
  rw [xbuf_owns]; exact wp_loadAll c bM zero2 v

/-- What a local copy of a chunk of `x` needs and leaves. -/
def xIn (n : ℕ) : sProp 𝕄 := iprop(tokX c n ∗ posX c n ∗ xAll m c ∗ xbufAny c)
def xOut (n : ℕ) : sProp 𝕄 := iprop(xbuf c (xch m c n) ∗ posX c (n + 1) ∗ xAll m c)

/-- What the first point's barrier needs. -/
def barIn : sProp 𝕄 :=
  iprop(dutyTok ER (barC (prv c)) 0 true ∗ dutyTok ER (barC (nxt c)) 0 false ∗ atPos ER (barC c) 0 ∅ 0 ∗ cred (tallyAt (barC c) 0 2)
    ∗ slotAny c 1)

/-- The weights' block in its staging buffer. -/
abbrev wIn : sProp 𝕄 := owns (c : Thread nD τ) a2 fullShare (wblk m c j)

include hj in
/-- Part 2: the first chunk of `x`, and the first partial sum into the slot of step `3 * j`. -/
theorem wp_part2 (a b : ℕ) (v30 v31 : BitVec 32) (v32 : BitVec 1) (z : BitVec 32) (arg0 : BitVec 32) (hj8 : j < 8) {Q} :
    iprop(ctx m ∗ xIn m c (4 * j) ∗ wIn m c j a2 ∗ slotAny c (3 * j) ∗ owing c (O c a b)
      ∗ (∀ r, (xOut m c (4 * j) ∗ wIn m c j a2 ∗ slot c (3 * j) (acc m c (3 * j)) ∗ owing c (O c a b)) -∗ Q r))
      ⊢ wp frame (wpE (defs₀ (F := F)) 𝒱₀ (c : Thread nD τ) none) Set.univ (k0_part2 (F := F) i xM (Memref.isWhole_whole _) a2 h2 a3 h3 bM (Memref.isWhole_whole _) kM (Memref.isWhole_whole _)
          cc0_scratch2 cc0_scratch3 cc0_scratch4 cc0_scratch5 arg0 c v30 v31 v32 z) Q := by
  rw [k0_part2_eq_skeleton]; unfold k0_part2_skel
  simp only [Prog.lift, Prog.bind_op, Prog.bind_ret, Prog.pure_eq_ret]
  unfold xIn xOut
  iintro ⟨#Hx, ⟨Ht, Hp, Hxa, Hb⟩, Hw, Hs, HO, Hk⟩
  iapply (wp_xcopy m c (4 * j) (by omega) a b rfl rfl ((off1_eq c).trans (by rw [xrow_congr c (show 0 % 4 = 4 * j % 4 by omega)]))
    (by unfold NX; rfl)) $$ [Ht Hp Hxa Hb HO]
  · isplitr; · iexact Hx
    isplitl [Ht]; · iexact Ht
    isplitl [Hp]; · iexact Hp
    isplitl [Hxa]; · iexact Hxa
    isplitl [Hb] <;> iassumption
  iintro ⟨Hb, Hp, Hxa, HO⟩
  iapply (wp_loadX c _) $$ Hb; iintro Hb
  iapply (wp_loadAll c a2 zero2 _) $$ Hw; iintro Hw
  unfold slotAny
  icases Hs with ⟨%v, Hs⟩
  iapply (wp_loadSlot c (3 * j) ((off2_eq i).trans (vec3 (by rw [hj]; omega))) v) $$ Hs; iintro Hs
  iapply (wp_storeSlot c (3 * j) ((off2_eq i).trans (vec3 (by rw [hj]; omega))) v) $$ Hs; iintro Hs
  rw [wp_ret]; imodintro
  iapply Hk
  rw [xch_congr m c (show 4 * j % 4 = 0 % 4 by omega), acc_0]
  unfold acc0
  isplitl [Hb Hp Hxa]
  · isplitl [Hb]; · iexact Hb
    isplitl [Hp] <;> iassumption
  isplitl [Hw]; · iexact Hw
  isplitl [Hs] <;> iassumption

/-- The wait for both neighbours' barrier signals, which brings the right neighbour's slot. -/
theorem wp_barWait {α : Type} {Q : α → sProp 𝕄} {k : PUnit → Prog (TpuEff nD τ sig (Elt F) Λ₀ .tc) α} {sm : Sem sig} (hs : sm = bS) {n : ℤ} (hn : n = ((2 : ℕ) : ℤ)) :
    iprop(ctx m ∗ cred (tallyAt (barC c) 0 2) ∗ atPos ER (barC c) 0 ∅ 0 ∗ owing c (O c 0 0))
      ⊢ iprop(((nbr c 0 ∗ atPos ER (barC c) 1 ∅ 0 ∗ owing c (O c 0 0)) -∗ wp frame (wpE (defs₀ (F := F)) 𝒱₀ (c : Thread nD τ) none) Set.univ (k ⟨⟩) Q) -∗ wp frame (wpE (defs₀ (F := F)) 𝒱₀ (c : Thread nD τ) none) Set.univ (.op (.semWait sm n) k) Q) := by
  subst hs hn
  unfold owing
  iintro ⟨#Hx, Hcr, Hat, ⟨%W, HO⟩⟩ Hk
  ihave HIb := (inv_bar m c) $$ Hx
  icases HIb with ⟨%κ, #HIb⟩
  iapply (Rounds.wp_wait_rest_token 𝒱₀ ER (Rd m) (c : Thread nD τ) none (κ := κ)
      (wpE_semWait_eq 𝒱₀ (c : Thread nD τ) none Set.univ) (Set.mem_univ _) 0 (O := O c 0 0) (W := W) (R := 0) (m := 0) (T := ∅)
      (by rw [expect_bar])) $$ [Hcr HO Hat]
  · isplitr; · iexact HIb
    isplitl [Hcr]; · iexact Hcr
    isplitl [HO]; · iexact HO
    isplitr
    · iapply (mayWait c (.reg bS) 0 0 0 (by omega) (by show 1 < _; omega) (by show 1 < _; omega))
      iapply (ctx_lev m); iexact Hx
    iexact Hat
  iintro ⟨HO, Hat, -, Hpay⟩
  ihave Hp := (Entails.of_eq (rest_bar m c)) $$ Hpay
  icases Hp with ⟨-, Hn⟩
  iapply Hk
  isplitl [Hn]; · iexact Hn
  isplitl [Hat]; · iexact Hat
  iexists _; iexact HO

/-- Part 1 at the first point: the two barrier signals and the wait for both neighbours'. -/
theorem wp_part1_first (h0 : (i 0).val = 0) {Q} :
    iprop(ctx m ∗ barIn c ∗ owing c (O₀ c) ∗ (∀ r, ⌜r.1 = BitVec.ofNat 32 (i 0).val ∧ r.2.1 = c⌝ -∗ (nbr c 0 ∗ semVal (barC c) 0 ∗ owing c (O c 0 0)) -∗ Q r))
      ⊢ wp frame (wpE (defs₀ (F := F)) 𝒱₀ (c : Thread nD τ) none) Set.univ (k0_part1 (F := F) i xM (Memref.isWhole_whole _) a2 h2 a3 h3 bM (Memref.isWhole_whole _) kM (Memref.isWhole_whole _)
          cc0_scratch2 cc0_scratch3 cc0_scratch4 cc0_scratch5 ) Q := by
  have hc := (cond1_iff i).mpr h0
  rw [k0_part1_eq_skeleton]; unfold k0_part1_skel
  simp only [semSignalWord, semWaitWord, Prog.lift, Prog.bind_op, Prog.bind_ret, Prog.pure_eq_ret, wp_deviceId]
  simp only [dif_pos hc, semSignalWord, semWaitWord, Prog.lift, Prog.bind_op, Prog.bind_ret, Prog.pure_eq_ret, dev1_eq c, dev2_eq c]
  unfold barIn owing
  iintro ⟨#Hx, ⟨Ht, Hf, Hat, Hcr, Hs⟩, ⟨%W, HO⟩, Hk⟩
  ihave HIb := (inv_bar m c) $$ Hx
  icases HIb with ⟨%κ, #HIb⟩
  ihave HIp := (inv_bar m (prv c)) $$ Hx
  icases HIp with ⟨%κp, #HIp⟩
  ihave HIn := (inv_bar m (nxt c)) $$ Hx
  icases HIn with ⟨%κn, #HIn⟩
  iapply (Rounds.wp_signal 𝒱₀ ER (Rd m) (c : Thread nD τ) none (dst := (prv c : Thread nD τ)) (κ := κp) (r := 0)
      (d := true) (by rw [duties_bar]; exact Finset.mem_univ _) ((amount_bar m (prv c) 0 true).trans (by decide)) 0
      (O c 0 0 + tallyAt (barC (nxt c)) 0 1) rfl) $$ [HO Ht Hs]
  · isplitr; · iexact HIp
    isplitl [HO]; · iexact HO
    isplitl [Ht]; · iexact Ht
    isplitl [Hs]
    · rw [payload_bar_true]; unfold nbr; rw [nxt_prv]
      isplitl [Hs]; · iexact Hs
      iapply (ctx_reached m (c, 4)); iexact Hx
    · iapply (ctx_reached m (prv c, 0)); iexact Hx
  iintro HO
  iapply (Rounds.wp_signal 𝒱₀ ER (Rd m) (c : Thread nD τ) none (dst := (nxt c : Thread nD τ)) (κ := κn) (r := 0)
      (d := false) (by rw [duties_bar]; exact Finset.mem_univ _) ((amount_bar m (nxt c) 0 false).trans (by decide)) 0 (O c 0 0) rfl) $$ [HO Hf]
  · isplitr; · iexact HIn
    isplitl [HO]; · iexact HO
    isplitl [Hf]; · iexact Hf
    isplitr; · rw [payload_bar_false]; iempintro
    iapply (ctx_reached m (nxt c, 0)); iexact Hx
  iintro HO
  iapply (wp_barWait m c rfl (by decide)) $$ [Hcr HO Hat]
  · isplitr; · iexact Hx
    isplitl [Hcr]; · iexact Hcr
    isplitl [Hat]; · iexact Hat
    unfold owing; iexists _; iexact HO
  iintro ⟨Hn, Hat, HO⟩
  rw [wp_ret]
  imod (Rounds.cell_close ER (Rd m) (Set.mem_univ κ) (fun h => h) (R := 0 + 1) (later_bar m c)) $$ [Hat] with Hz
  · isplitr; · iexact HIb
    iexact Hat
  imodintro
  iapply Hk $$ %_ []
  · ipureintro; exact ⟨rfl, rfl⟩
  isplitl [Hn]; · iexact Hn
  isplitl [Hz]; · iexact Hz
  unfold owing; iexact HO

/-- Part 1 at any other point does nothing. -/
theorem wp_part1_later (h0 : ¬ (i 0).val = 0) {Q} :
    (iprop(∀ r, ⌜r.1 = BitVec.ofNat 32 (i 0).val ∧ r.2.1 = c⌝ -∗ Q r) : sProp 𝕄) ⊢ wp frame (wpE (defs₀ (F := F)) 𝒱₀ (c : Thread nD τ) none) Set.univ (k0_part1 (F := F) i xM (Memref.isWhole_whole _) a2 h2 a3 h3 bM (Memref.isWhole_whole _) kM (Memref.isWhole_whole _)
          cc0_scratch2 cc0_scratch3 cc0_scratch4 cc0_scratch5 ) Q := by
  have hc := mt (cond1_iff i).mp h0
  rw [k0_part1_eq_skeleton]; unfold k0_part1_skel
  simp only [semSignalWord, semWaitWord, Prog.lift, Prog.bind_op, Prog.bind_ret, Prog.pure_eq_ret, wp_deviceId]
  simp only [dif_neg hc, Prog.bind_ret, Prog.pure_eq_ret]
  iintro Hk
  rw [wp_ret]; imodintro
  iapply Hk
  ipureintro; exact ⟨rfl, rfl⟩

theorem cond2_iff : Scalar.cmpi .ne (Scalar.extui (Scalar.cmpi .sge (BitVec.ofNat 32 (i 0).val) 1#32) : BitVec 32) 0#32 = 1#1 ↔ ¬ (i 0).val = 0 := by
  revert i; decide +kernel

include hj in
/-- Part 3: the transfer of step `3 * j`, at the first point (`nbr` came with the barrier) and at the others (after a credit). -/
theorem wp_part3_first (v2 v24 v64 v65 : BitVec 32) (v66 : BitVec 1) (hj0 : j = 0) {Q} :
    iprop(ctx m ∗ slot c (3 * j) (acc m c (3 * j)) ∗ nbr c (3 * j) ∗ posS c (3 * j) ∗ posC c (3 * j) ∗ tokS c (3 * j) ∗ tokR c (3 * j) ∗ owing c (O c (3 * j) (3 * j))
      ∗ (∀ r, (crS c (3 * j) ∗ posS c (3 * j) ∗ posC c (3 * j) ∗ owing c (O c (3 * j + 1) (3 * j))) -∗ Q r))
      ⊢ wp frame (wpE (defs₀ (F := F)) 𝒱₀ (c : Thread nD τ) none) Set.univ (k0_part3 (F := F) i xM (Memref.isWhole_whole _) a2 h2 a3 h3 bM (Memref.isWhole_whole _) kM (Memref.isWhole_whole _)
          cc0_scratch2 cc0_scratch3 cc0_scratch4 cc0_scratch5 (BitVec.ofNat 32 (i 0).val) c v2 v24 v64 v65 v66) Q := by
  have hc := mt (cond2_iff i).mp (not_not_intro (hj.trans hj0))
  rw [k0_part3_eq_skeleton]; unfold k0_part3_skel
  simp only [semSignalWord, semWaitWord, Prog.lift, Prog.bind_op, Prog.bind_ret, Prog.pure_eq_ret, wp_deviceId]
  simp only [dif_neg hc, Prog.bind_op, Prog.bind_ret, Prog.pure_eq_ret]
  iintro ⟨#Hx, Hs, Hn, Hp, HpC, Ht, Htr, HO, Hk⟩
  iapply (wp_sendStep m c (3 * j) (by omega) (acc m c (3 * j)) rfl (rcvSem0 j) (sndSem0 j) (Fin.ext (dev3_eq c))
      ((off4_eq i 0).trans (vec3 (show ((i 0).val + 0) % 2 = (3 * j) % 2 by omega)))
      ((off3_eq i 0).trans (vec3 (show ((i 0).val + 0 + 1) % 2 = (3 * j + 1) % 2 by omega)))) $$ [Hs Hn Hp HpC Ht Htr HO]
  · isplitr; · iexact Hx
    isplitl [Hs]; · iexact Hs
    isplitl [Hn]; · iexact Hn
    isplitl [Hp]; · iexact Hp
    isplitl [HpC]; · iexact HpC
    isplitl [Ht]; · iexact Ht
    isplitl [Htr] <;> iassumption
  iintro ⟨Hc, Hp, HpC, HO⟩
  rw [wp_ret]; imodintro
  iapply Hk
  isplitl [Hc]; · iexact Hc
  isplitl [Hp]; · iexact Hp
  isplitl [HpC] <;> iassumption

include hj in
theorem wp_part3_later (v2 v24 v64 v65 : BitVec 32) (v66 : BitVec 1) (hj0 : ¬ j = 0) (hj8 : j < 8) {Q} :
    iprop(ctx m ∗ slot c (3 * j) (acc m c (3 * j)) ∗ crC c (3 * j - 1) ∗ posS c (3 * j) ∗ posC c (3 * j - 1) ∗ tokS c (3 * j) ∗ tokR c (3 * j) ∗ owing c (O c (3 * j) (3 * j))
      ∗ (∀ r, (crS c (3 * j) ∗ posS c (3 * j) ∗ posC c (3 * j) ∗ owing c (O c (3 * j + 1) (3 * j))) -∗ Q r))
      ⊢ wp frame (wpE (defs₀ (F := F)) 𝒱₀ (c : Thread nD τ) none) Set.univ (k0_part3 (F := F) i xM (Memref.isWhole_whole _) a2 h2 a3 h3 bM (Memref.isWhole_whole _) kM (Memref.isWhole_whole _)
          cc0_scratch2 cc0_scratch3 cc0_scratch4 cc0_scratch5 (BitVec.ofNat 32 (i 0).val) c v2 v24 v64 v65 v66) Q := by
  have hc := (cond2_iff i).mpr (fun h => hj0 (hj.symm.trans h))
  rw [k0_part3_eq_skeleton]; unfold k0_part3_skel
  simp only [semSignalWord, semWaitWord, Prog.lift, Prog.bind_op, Prog.bind_ret, Prog.pure_eq_ret, wp_deviceId]
  simp only [dif_pos hc, semSignalWord, semWaitWord, Prog.lift, Prog.bind_op, Prog.bind_ret, Prog.pure_eq_ret]
  iintro ⟨#Hx, Hs, Hcc, Hp, HpC, Ht, Htr, HO, Hk⟩
  iapply (wp_creditWait m c (3 * j) (by omega) (by omega) rfl rfl) $$ [Hcc HpC HO]
  · isplitr; · iexact Hx
    isplitl [Hcc]; · iexact Hcc
    isplitl [HpC] <;> iassumption
  iintro ⟨Hn, HpC, HO⟩
  iapply (wp_sendStep m c (3 * j) (by omega) (acc m c (3 * j)) rfl (rcvSem0 j) (sndSem0 j) (Fin.ext (dev3_eq c))
      ((off4_eq i 0).trans (vec3 (show ((i 0).val + 0) % 2 = (3 * j) % 2 by omega)))
      ((off3_eq i 0).trans (vec3 (show ((i 0).val + 0 + 1) % 2 = (3 * j + 1) % 2 by omega)))) $$ [Hs Hn Hp HpC Ht Htr HO]
  · isplitr; · iexact Hx
    isplitl [Hs]; · iexact Hs
    isplitl [Hn]; · iexact Hn
    isplitl [Hp]; · iexact Hp
    isplitl [HpC]; · iexact HpC
    isplitl [Ht]; · iexact Ht
    isplitl [Htr] <;> iassumption
  iintro ⟨Hc, Hp, HpC, HO⟩
  rw [wp_ret]; imodintro
  iapply Hk
  isplitl [Hc]; · iexact Hc
  isplitl [Hp]; · iexact Hp
  isplitl [HpC] <;> iassumption

include hj in
/-- Part 4: the second chunk of `x`, the end of step `3 * j`'s transfer, and the credit. -/
theorem wp_part4 (v13 v24 v84 v99 c4 : BitVec 32) (v100 : BitVec 1) (hj8 : j < 8) {Q} :
    iprop(ctx m ∗ xIn m c (4 * j + 1) ∗ crS c (3 * j) ∗ posS c (3 * j) ∗ crR c (3 * j) ∗ posR c (3 * j) ∗ reached ER (rcvC c (3 * j + 1)) ((3 * j + 1) / 3)
        ∗ tokC c (3 * j) ∗ owing c (O c (3 * j + 1) (3 * j))
      ∗ (∀ r, (xOut m c (4 * j + 1) ∗ posS c (3 * j + 3) ∗ posR c (3 * j + 3) ∗ slot c (3 * j + 1) (acc m (prv c) (3 * j)) ∗ owing c (O c (3 * j + 1) (3 * j + 1))) -∗ Q r))
      ⊢ wp frame (wpE (defs₀ (F := F)) 𝒱₀ (c : Thread nD τ) none) Set.univ (k0_part4 (F := F) i xM (Memref.isWhole_whole _) a2 h2 a3 h3 bM (Memref.isWhole_whole _) kM (Memref.isWhole_whole _)
          cc0_scratch2 cc0_scratch3 cc0_scratch4 cc0_scratch5 c v13 v24 v84 v99 c4 v100) Q := by
  rw [k0_part4_eq_skeleton]; unfold k0_part4_skel
  simp only [semSignalWord, semWaitWord, Prog.lift, Prog.bind_op, Prog.bind_ret, Prog.pure_eq_ret, wp_deviceId]
  unfold xIn xOut
  iintro ⟨#Hx, ⟨Htx, Hpx, Hxa, Hb⟩, Hc, Hp, Hcr, Hpr, #Hrn, Htc, HO, Hk⟩
  iapply (wp_xcopy m c (4 * j + 1) (by omega) (3 * j + 1) (3 * j) rfl rfl ((off5_eq c 0).trans (vec2 (xrow_congr c (show (0 + 1) % 4 = (4 * j + 1) % 4 by omega))))
    (by unfold NX; rfl)) $$ [Htx Hpx Hxa Hb HO]
  · isplitr; · iexact Hx
    isplitl [Htx]; · iexact Htx
    isplitl [Hpx]; · iexact Hpx
    isplitl [Hxa]; · iexact Hxa
    isplitl [Hb] <;> iassumption
  iintro ⟨Hb, Hpx, Hxa, HO⟩
  iapply (wp_sendWait m c (3 * j) (3 * j + 1) (3 * j) (by omega) (sndSem0 j) (by unfold N; rfl)) $$ [Hc Hp HO]
  · isplitr; · iexact Hx
    isplitl [Hc]; · iexact Hc
    isplitl [Hp] <;> iassumption
  iintro ⟨Hs, Hp, HO⟩
  iapply (wp_recvWait m c (3 * j) (by omega) (rcvSem0 j) (by unfold N; rfl)) $$ [Hcr Hpr HO]
  · isplitr; · iexact Hx
    isplitl [Hcr]; · iexact Hcr
    isplitl [Hpr] <;> iassumption
  iintro ⟨Hs', Hrc, Hpr, HO⟩
  iapply (wp_creditSignal m c (3 * j) (by omega) rfl (Fin.ext (dev4_eq c)) rfl) $$ [Htc Hs Hrc HO]
  · isplitr; · iexact Hx
    isplitl [Htc]; · iexact Htc
    isplitl [Hs]; · iexact Hs
    isplitr; · iexact Hrn
    isplitl [Hrc] <;> iassumption
  iintro HO
  rw [wp_ret]; imodintro
  iapply Hk
  isplitl [Hb Hpx Hxa]
  · isplitl [Hb]; · iexact Hb
    isplitl [Hpx] <;> iassumption
  isplitl [Hp]; · iexact Hp
  isplitl [Hpr]; · iexact Hpr
  isplitl [Hs'] <;> iassumption

include hj in
/-- Part 5: the second partial sum, over what came. -/
theorem wp_part5 (v84 : BitVec 32) (arg0 : BitVec 32) {Q} :
    iprop(xbuf c (xch m c (4 * j + 1)) ∗ wIn m c j a2 ∗ slot c (3 * j + 1) (acc m (prv c) (3 * j))
      ∗ (∀ r, (xbufAny c ∗ wIn m c j a2 ∗ slot c (3 * j + 1) (acc m c (3 * j + 1))) -∗ Q r))
      ⊢ wp frame (wpE (defs₀ (F := F)) 𝒱₀ (c : Thread nD τ) none) Set.univ (k0_part5 (F := F) i xM (Memref.isWhole_whole _) a2 h2 a3 h3 bM (Memref.isWhole_whole _) kM (Memref.isWhole_whole _)
          cc0_scratch2 cc0_scratch3 cc0_scratch4 cc0_scratch5 arg0 v84) Q := by
  rw [k0_part5_eq_skeleton]; unfold k0_part5_skel
  simp only [semSignalWord, semWaitWord, Prog.lift, Prog.bind_op, Prog.bind_ret, Prog.pure_eq_ret, wp_deviceId]
  iintro ⟨Hb, Hw, Hs', Hk⟩
  iapply (wp_loadSlot c (3 * j + 1) ((off6_eq i 0).trans (vec3 (show ((i 0).val + 0 + 1) % 2 = (3 * j + 1) % 2 by omega))) _) $$ Hs'; iintro Hs'
  iapply (wp_loadX c _) $$ Hb; iintro Hb
  iapply (wp_loadAll c a2 zero2 _) $$ Hw; iintro Hw
  iapply (wp_loadSlot c (3 * j + 1) ((off6_eq i 0).trans (vec3 (show ((i 0).val + 0 + 1) % 2 = (3 * j + 1) % 2 by omega))) _) $$ Hs'; iintro Hs'
  iapply (wp_storeSlot c (3 * j + 1) ((off6_eq i 0).trans (vec3 (show ((i 0).val + 0 + 1) % 2 = (3 * j + 1) % 2 by omega))) _) $$ Hs'; iintro Hs'
  rw [wp_ret]; imodintro
  iapply Hk
  rw [acc_0, acc_1]
  unfold acc1
  rw [xch_congr m c (show (4 * j + 1) % 4 = 1 % 4 by omega)]
  isplitl [Hb]; · iapply (xbuf_any c); iexact Hb
  isplitl [Hw] <;> iassumption

include hj in
/-- Part 6: step `3 * j + 1` begins, and the third chunk of `x`. -/
theorem wp_part6 (v2 v24 : BitVec 32) (hj8 : j < 8) {Q} :
    iprop(ctx m ∗ xIn m c (4 * j + 2) ∗ slot c (3 * j + 1) (acc m c (3 * j + 1)) ∗ crC c (3 * j + 1 - 1) ∗ posS c (3 * j + 1) ∗ posC c (3 * j + 1 - 1)
        ∗ tokS c (3 * j + 1) ∗ tokR c (3 * j + 1) ∗ owing c (O c (3 * j + 1) (3 * j + 1))
      ∗ (∀ r, (xOut m c (4 * j + 2) ∗ crS c (3 * j + 1) ∗ posS c (3 * j + 1) ∗ posC c (3 * j + 1) ∗ owing c (O c (3 * j + 1 + 1) (3 * j + 1))) -∗ Q r))
      ⊢ wp frame (wpE (defs₀ (F := F)) 𝒱₀ (c : Thread nD τ) none) Set.univ (k0_part6 (F := F) i xM (Memref.isWhole_whole _) a2 h2 a3 h3 bM (Memref.isWhole_whole _) kM (Memref.isWhole_whole _)
          cc0_scratch2 cc0_scratch3 cc0_scratch4 cc0_scratch5 c v2 v24) Q := by
  rw [k0_part6_eq_skeleton]; unfold k0_part6_skel
  simp only [semSignalWord, semWaitWord, Prog.lift, Prog.bind_op, Prog.bind_ret, Prog.pure_eq_ret, wp_deviceId]
  unfold xIn xOut
  iintro ⟨#Hx, ⟨Htx, Hpx, Hxa, Hb⟩, Hs, Hcc, Hp, HpC, Ht, Htr, HO, Hk⟩
  iapply (wp_creditWait m c (3 * j + 1) (by omega) (by omega) rfl rfl) $$ [Hcc HpC HO]
  · isplitr; · iexact Hx
    isplitl [Hcc]; · iexact Hcc
    isplitl [HpC] <;> iassumption
  iintro ⟨Hn, HpC, HO⟩
  iapply (wp_sendStep m c (3 * j + 1) (by omega) (acc m c (3 * j + 1)) rfl (rcvSem1 j) (sndSem1 j) (Fin.ext (dev5_eq c))
      ((off4_eq i 1).trans (vec3 (show ((i 0).val + 1) % 2 = (3 * j + 1) % 2 by omega)))
      ((off3_eq i 1).trans (vec3 (show ((i 0).val + 1 + 1) % 2 = (3 * j + 1 + 1) % 2 by omega)))) $$ [Hs Hn Hp HpC Ht Htr HO]
  · isplitr; · iexact Hx
    isplitl [Hs]; · iexact Hs
    isplitl [Hn]; · iexact Hn
    isplitl [Hp]; · iexact Hp
    isplitl [HpC]; · iexact HpC
    isplitl [Ht]; · iexact Ht
    isplitl [Htr] <;> iassumption
  iintro ⟨Hc, Hp, HpC, HO⟩
  iapply (wp_xcopy m c (4 * j + 2) (by omega) (3 * j + 1 + 1) (3 * j + 1) rfl rfl ((off5_eq c 1).trans (vec2 (xrow_congr c (show (1 + 1) % 4 = (4 * j + 2) % 4 by omega))))
    (by unfold NX; rfl)) $$ [Htx Hpx Hxa Hb HO]
  · isplitr; · iexact Hx
    isplitl [Htx]; · iexact Htx
    isplitl [Hpx]; · iexact Hpx
    isplitl [Hxa]; · iexact Hxa
    isplitl [Hb] <;> iassumption
  iintro ⟨Hb, Hpx, Hxa, HO⟩
  rw [wp_ret]; imodintro
  iapply Hk
  isplitl [Hb Hpx Hxa]
  · isplitl [Hb]; · iexact Hb
    isplitl [Hpx] <;> iassumption
  isplitl [Hc]; · iexact Hc
  isplitl [Hp]; · iexact Hp
  isplitl [HpC] <;> iassumption

include hj in
/-- Part 7: the end of step `3 * j + 1`'s transfer, the credit, and the third partial sum. -/
theorem wp_part7 (v13 v24 v165 : BitVec 32) (arg0 : BitVec 32) (hj8 : j < 8) {Q} :
    iprop(ctx m ∗ xbuf c (xch m c (4 * j + 2)) ∗ wIn m c j a2 ∗ crS c (3 * j + 1) ∗ posS c (3 * j + 1) ∗ crR c (3 * j + 1) ∗ posR c (3 * j + 1)
        ∗ reached ER (rcvC c (3 * j + 1 + 1)) ((3 * j + 1 + 1) / 3) ∗ tokC c (3 * j + 1) ∗ owing c (O c (3 * j + 1 + 1) (3 * j + 1))
      ∗ (∀ r, (xbufAny c ∗ wIn m c j a2 ∗ posS c (3 * j + 1 + 3) ∗ posR c (3 * j + 1 + 3) ∗ slot c (3 * j + 2) (acc m c (3 * j + 2)) ∗ owing c (O c (3 * j + 2) (3 * j + 2))) -∗ Q r))
      ⊢ wp frame (wpE (defs₀ (F := F)) 𝒱₀ (c : Thread nD τ) none) Set.univ (k0_part7 (F := F) i xM (Memref.isWhole_whole _) a2 h2 a3 h3 bM (Memref.isWhole_whole _) kM (Memref.isWhole_whole _)
          cc0_scratch2 cc0_scratch3 cc0_scratch4 cc0_scratch5 arg0 c v13 v24 v165) Q := by
  rw [k0_part7_eq_skeleton]; unfold k0_part7_skel
  simp only [semSignalWord, semWaitWord, Prog.lift, Prog.bind_op, Prog.bind_ret, Prog.pure_eq_ret, wp_deviceId]
  iintro ⟨#Hx, Hb, Hw, Hc, Hp, Hcr, Hpr, #Hrn, Htc, HO, Hk⟩
  iapply (wp_sendWait m c (3 * j + 1) (3 * j + 1 + 1) (3 * j + 1) (by omega) (sndSem1 j) (by unfold N; rfl)) $$ [Hc Hp HO]
  · isplitr; · iexact Hx
    isplitl [Hc]; · iexact Hc
    isplitl [Hp] <;> iassumption
  iintro ⟨Hs, Hp, HO⟩
  iapply (wp_recvWait m c (3 * j + 1) (by omega) (rcvSem1 j) (by unfold N; rfl)) $$ [Hcr Hpr HO]
  · isplitr; · iexact Hx
    isplitl [Hcr]; · iexact Hcr
    isplitl [Hpr] <;> iassumption
  iintro ⟨Hs', Hrc, Hpr, HO⟩
  iapply (wp_creditSignal m c (3 * j + 1) (by omega) rfl (Fin.ext (dev6_eq c)) rfl) $$ [Htc Hs Hrc HO]
  · isplitr; · iexact Hx
    isplitl [Htc]; · iexact Htc
    isplitl [Hs]; · iexact Hs
    isplitr; · iexact Hrn
    isplitl [Hrc] <;> iassumption
  iintro HO
  iapply (wp_loadSlot c (3 * j + 1 + 1) ((off6_eq i 1).trans (vec3 (show ((i 0).val + 1 + 1) % 2 = (3 * j + 1 + 1) % 2 by omega))) _) $$ Hs'; iintro Hs'
  iapply (wp_loadX c _) $$ Hb; iintro Hb
  iapply (wp_loadAll c a2 zero2 _) $$ Hw; iintro Hw
  iapply (wp_loadSlot c (3 * j + 1 + 1) ((off6_eq i 1).trans (vec3 (show ((i 0).val + 1 + 1) % 2 = (3 * j + 1 + 1) % 2 by omega))) _) $$ Hs'; iintro Hs'
  iapply (wp_storeSlot c (3 * j + 1 + 1) ((off6_eq i 1).trans (vec3 (show ((i 0).val + 1 + 1) % 2 = (3 * j + 1 + 1) % 2 by omega))) _) $$ Hs'; iintro Hs'
  rw [wp_ret]; imodintro
  iapply Hk
  rw [acc_1, acc_2]
  unfold acc2
  rw [xch_congr m c (show (4 * j + 2) % 4 = 2 % 4 by omega)]
  isplitl [Hb]; · iapply (xbuf_any c); iexact Hb
  isplitl [Hw]; · iexact Hw
  isplitl [Hp]; · iexact Hp
  isplitl [Hpr]; · iexact Hpr
  isplitl [Hs'] <;> iassumption

include hj in
/-- Part 8: step `3 * j + 2` begins. -/
theorem wp_part8 (v2 v24 v223 v224 z : BitVec 32) (arg0 : BitVec 32) (hj8 : j < 8) {Q} :
    iprop(ctx m ∗ slot c (3 * j + 2) (acc m c (3 * j + 2)) ∗ crC c (3 * j + 2 - 1) ∗ posS c (3 * j + 2) ∗ posC c (3 * j + 2 - 1)
        ∗ tokS c (3 * j + 2) ∗ tokR c (3 * j + 2) ∗ owing c (O c (3 * j + 2) (3 * j + 2))
      ∗ (∀ r, (crS c (3 * j + 2) ∗ posS c (3 * j + 2) ∗ posC c (3 * j + 2) ∗ owing c (O c (3 * j + 2 + 1) (3 * j + 2))) -∗ Q r))
      ⊢ wp frame (wpE (defs₀ (F := F)) 𝒱₀ (c : Thread nD τ) none) Set.univ (k0_part8 (F := F) i xM (Memref.isWhole_whole _) a2 h2 a3 h3 bM (Memref.isWhole_whole _) kM (Memref.isWhole_whole _)
          cc0_scratch2 cc0_scratch3 cc0_scratch4 cc0_scratch5 arg0 c v2 v24 v223 v224 z) Q := by
  rw [k0_part8_eq_skeleton]; unfold k0_part8_skel
  simp only [semSignalWord, semWaitWord, Prog.lift, Prog.bind_op, Prog.bind_ret, Prog.pure_eq_ret, wp_deviceId]
  iintro ⟨#Hx, Hs, Hcc, Hp, HpC, Ht, Htr, HO, Hk⟩
  iapply (wp_creditWait m c (3 * j + 2) (by omega) (by omega) rfl rfl) $$ [Hcc HpC HO]
  · isplitr; · iexact Hx
    isplitl [Hcc]; · iexact Hcc
    isplitl [HpC] <;> iassumption
  iintro ⟨Hn, HpC, HO⟩
  iapply (wp_sendStep m c (3 * j + 2) (by omega) (acc m c (3 * j + 2)) rfl (rcvSem2 j) (sndSem2 j) (Fin.ext (dev7_eq c))
      ((off4_eq i 2).trans (vec3 (show ((i 0).val + 2) % 2 = (3 * j + 2) % 2 by omega)))
      ((off3_eq i 2).trans (vec3 (show ((i 0).val + 2 + 1) % 2 = (3 * j + 2 + 1) % 2 by omega)))) $$ [Hs Hn Hp HpC Ht Htr HO]
  · isplitr; · iexact Hx
    isplitl [Hs]; · iexact Hs
    isplitl [Hn]; · iexact Hn
    isplitl [Hp]; · iexact Hp
    isplitl [HpC]; · iexact HpC
    isplitl [Ht]; · iexact Ht
    isplitl [Htr] <;> iassumption
  iintro ⟨Hc, Hp, HpC, HO⟩
  rw [wp_ret]; imodintro
  iapply Hk
  isplitl [Hc]; · iexact Hc
  isplitl [Hp]; · iexact Hp
  isplitl [HpC] <;> iassumption

include hj in
/-- Part 9: the fourth chunk of `x`, the end of step `3 * j + 2`'s transfer, and the credit, which only the last point leaves out. -/
theorem wp_part9_later (v13 v24 v243 v255 v257 : BitVec 32) (arg0 : BitVec 32) (hj7 : j < 7) {Q} :
    iprop(ctx m ∗ xIn m c (4 * j + 3) ∗ crS c (3 * j + 2) ∗ posS c (3 * j + 2) ∗ crR c (3 * j + 2) ∗ posR c (3 * j + 2) ∗ reached ER (rcvC c (3 * j + 2 + 1)) ((3 * j + 2 + 1) / 3)
        ∗ tokC c (3 * j + 2) ∗ owing c (O c (3 * j + 2 + 1) (3 * j + 2))
      ∗ (∀ r, ⌜r = acc m (prv c) (3 * j + 2)⌝ -∗ (xOut m c (4 * j + 3) ∗ posS c (3 * j + 2 + 3) ∗ posR c (3 * j + 2 + 3) ∗ slot c (3 * j + 2 + 1) (acc m (prv c) (3 * j + 2))
          ∗ owing c (O c (3 * j + 2 + 1) (3 * j + 2 + 1))) -∗ Q r))
      ⊢ wp frame (wpE (defs₀ (F := F)) 𝒱₀ (c : Thread nD τ) none) Set.univ (k0_part9 (F := F) i xM (Memref.isWhole_whole _) a2 h2 a3 h3 bM (Memref.isWhole_whole _) kM (Memref.isWhole_whole _)
          cc0_scratch2 cc0_scratch3 cc0_scratch4 cc0_scratch5 arg0 c v13 v24 v243 v255 v257) Q := by
  have hc := (cond3_iff i).mpr (by omega)
  rw [k0_part9_eq_skeleton]; unfold k0_part9_skel
  simp only [semSignalWord, semWaitWord, Prog.lift, Prog.bind_op, Prog.bind_ret, Prog.pure_eq_ret, wp_deviceId]
  simp only [dif_pos hc, semSignalWord, semWaitWord, Prog.lift, Prog.bind_op, Prog.bind_ret, Prog.pure_eq_ret]
  unfold xIn xOut
  iintro ⟨#Hx, ⟨Htx, Hpx, Hxa, Hb⟩, Hc, Hp, Hcr, Hpr, #Hrn, Htc, HO, Hk⟩
  iapply (wp_xcopy m c (4 * j + 3) (by omega) (3 * j + 2 + 1) (3 * j + 2) rfl rfl ((off5_eq c 2).trans (vec2 (xrow_congr c (show (2 + 1) % 4 = (4 * j + 3) % 4 by omega))))
    (by unfold NX; rfl)) $$ [Htx Hpx Hxa Hb HO]
  · isplitr; · iexact Hx
    isplitl [Htx]; · iexact Htx
    isplitl [Hpx]; · iexact Hpx
    isplitl [Hxa]; · iexact Hxa
    isplitl [Hb] <;> iassumption
  iintro ⟨Hb, Hpx, Hxa, HO⟩
  iapply (wp_sendWait m c (3 * j + 2) (3 * j + 2 + 1) (3 * j + 2) (by omega) (sndSem2 j) (by unfold N; rfl)) $$ [Hc Hp HO]
  · isplitr; · iexact Hx
    isplitl [Hc]; · iexact Hc
    isplitl [Hp] <;> iassumption
  iintro ⟨Hs, Hp, HO⟩
  iapply (wp_recvWait m c (3 * j + 2) (by omega) (rcvSem2 j) (by unfold N; rfl)) $$ [Hcr Hpr HO]
  · isplitr; · iexact Hx
    isplitl [Hcr]; · iexact Hcr
    isplitl [Hpr] <;> iassumption
  iintro ⟨Hs', Hrc, Hpr, HO⟩
  iapply (wp_creditSignal m c (3 * j + 2) (by omega) rfl (Fin.ext (dev8_eq c)) rfl) $$ [Htc Hs Hrc HO]
  · isplitr; · iexact Hx
    isplitl [Htc]; · iexact Htc
    isplitl [Hs]; · iexact Hs
    isplitr; · iexact Hrn
    isplitl [Hrc] <;> iassumption
  iintro HO
  iapply (wp_loadSlot c (3 * j + 2 + 1) ((off6_eq i 2).trans (vec3 (show ((i 0).val + 2 + 1) % 2 = (3 * j + 2 + 1) % 2 by omega))) _) $$ Hs'; iintro Hs'
  rw [wp_ret]; imodintro
  iapply Hk $$ %_ []
  · ipureintro; rfl
  isplitl [Hb Hpx Hxa]
  · isplitl [Hb]; · iexact Hb
    isplitl [Hpx] <;> iassumption
  isplitl [Hp]; · iexact Hp
  isplitl [Hpr]; · iexact Hpr
  isplitl [Hs'] <;> iassumption

include hj in
theorem wp_part9_last (v13 v24 v243 v255 v257 : BitVec 32) (arg0 : BitVec 32) (hj7 : j = 7) {Q} :
    iprop(ctx m ∗ xIn m c (4 * j + 3) ∗ crS c (3 * j + 2) ∗ posS c (3 * j + 2) ∗ crR c (3 * j + 2) ∗ posR c (3 * j + 2) ∗ owing c (O c (3 * j + 2 + 1) (3 * j + 2))
      ∗ (∀ r, ⌜r = acc m (prv c) (3 * j + 2)⌝ -∗ (xOut m c (4 * j + 3) ∗ posS c (3 * j + 2 + 3) ∗ posR c (3 * j + 2 + 3) ∗ slot c (3 * j + 2 + 1) (acc m (prv c) (3 * j + 2))
          ∗ slotAny c (3 * j + 2) ∗ owing c (O c (3 * j + 2 + 1) (3 * j + 2))) -∗ Q r))
      ⊢ wp frame (wpE (defs₀ (F := F)) 𝒱₀ (c : Thread nD τ) none) Set.univ (k0_part9 (F := F) i xM (Memref.isWhole_whole _) a2 h2 a3 h3 bM (Memref.isWhole_whole _) kM (Memref.isWhole_whole _)
          cc0_scratch2 cc0_scratch3 cc0_scratch4 cc0_scratch5 arg0 c v13 v24 v243 v255 v257) Q := by
  have hc := mt (cond3_iff i).mp (by omega)
  rw [k0_part9_eq_skeleton]; unfold k0_part9_skel
  simp only [semSignalWord, semWaitWord, Prog.lift, Prog.bind_op, Prog.bind_ret, Prog.pure_eq_ret, wp_deviceId]
  simp only [dif_neg hc, Prog.bind_op, Prog.bind_ret, Prog.pure_eq_ret]
  unfold xIn xOut
  iintro ⟨#Hx, ⟨Htx, Hpx, Hxa, Hb⟩, Hc, Hp, Hcr, Hpr, HO, Hk⟩
  iapply (wp_xcopy m c (4 * j + 3) (by omega) (3 * j + 2 + 1) (3 * j + 2) rfl rfl ((off5_eq c 2).trans (vec2 (xrow_congr c (show (2 + 1) % 4 = (4 * j + 3) % 4 by omega))))
    (by unfold NX; rfl)) $$ [Htx Hpx Hxa Hb HO]
  · isplitr; · iexact Hx
    isplitl [Htx]; · iexact Htx
    isplitl [Hpx]; · iexact Hpx
    isplitl [Hxa]; · iexact Hxa
    isplitl [Hb] <;> iassumption
  iintro ⟨Hb, Hpx, Hxa, HO⟩
  iapply (wp_sendWait m c (3 * j + 2) (3 * j + 2 + 1) (3 * j + 2) (by omega) (sndSem2 j) (by unfold N; rfl)) $$ [Hc Hp HO]
  · isplitr; · iexact Hx
    isplitl [Hc]; · iexact Hc
    isplitl [Hp] <;> iassumption
  iintro ⟨Hs, Hp, HO⟩
  iapply (wp_recvWait m c (3 * j + 2) (by omega) (rcvSem2 j) (by unfold N; rfl)) $$ [Hcr Hpr HO]
  · isplitr; · iexact Hx
    isplitl [Hcr]; · iexact Hcr
    isplitl [Hpr] <;> iassumption
  iintro ⟨Hs', Hrc, Hpr, HO⟩
  iapply (wp_loadSlot c (3 * j + 2 + 1) ((off6_eq i 2).trans (vec3 (show ((i 0).val + 2 + 1) % 2 = (3 * j + 2 + 1) % 2 by omega))) _) $$ Hs'; iintro Hs'
  rw [wp_ret]; imodintro
  iapply Hk $$ %_ []
  · ipureintro; rfl
  isplitl [Hb Hpx Hxa]
  · isplitl [Hb]; · iexact Hb
    isplitl [Hpx] <;> iassumption
  isplitl [Hp]; · iexact Hp
  isplitl [Hpr]; · iexact Hpr
  isplitl [Hs']; · iexact Hs'
  isplitl [Hs] <;> iassumption

end Parts

end Cert.RingProof

end
-- ==== Proof.Body.lean ====
/-
# One grid point, and the body obligation

The state between grid points, the body of one point taken from the nine parts, and the obligation the pipeline asks for.
-/
module

public import proofs.«01_k».proof.Proof.Parts

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem pos_reached (g : GSem nD τ sig) (r : ℕ) : pos g r ⊢ (iprop(pos g r ∗ reached ER g r) : sProp 𝕄) := by
  unfold pos
  iintro ⟨H, #Hr⟩
  isplitl [H]
  · isplitl [H]; · iexact H
    iexact Hr
  iexact Hr

section Point

variable (c : Dev nD)

/-- What step `g` spends: the duties of its transfer, the credit its landing brings, the credit it gives and the credit it waits for. -/
def stepToks (g : ℕ) : sProp 𝕄 :=
  iprop(tokS c g ∗ tokR c g ∗ crR c g ∗ (if g < 23 then tokC c g else emp) ∗ (if 0 < g then crC c (g - 1) else emp))

/-- The barrier's part of the state before point `j`, and what device `c` then owes. -/
def edge (j : ℕ) : sProp 𝕄 := if j = 0 then barIn (F := F) c else semVal (barC c) 0
def owedAt (j : ℕ) : CellTallies nD τ sig ℕ := if j = 0 then O₀ c else O c (3 * j) (min (3 * j) 23)

/-- The positions before point `j`. -/
def poss (j : ℕ) : sProp 𝕄 :=
  iprop((posS c (3 * j) ∗ posS c (3 * j + 1) ∗ posS c (3 * j + 2)) ∗ (posR c (3 * j) ∗ posR c (3 * j + 1) ∗ posR c (3 * j + 2))
    ∗ posX c (4 * j) ∗ posC c (3 * j - 1))

/-- The buffers before point `j`. -/
def bufs (j : ℕ) : sProp 𝕄 := iprop(xAll m c ∗ xbufAny c ∗ slotAny c (3 * j))

variable (i : grid0.Coords) (j : ℕ) (hj : (i 0).val = j) (hj8 : j < 8)
  (a2 : Memref sig .tc .vmem S2048x512 .bf16) (h2 : a2.IsWhole) (a3 : Memref sig .tc .vmem S2048x512 .f32) (h3 : a3.IsWhole)

include hj in
/-- Part 1 at every point. -/
theorem wp_part1 (hj8 : j < 8) {Q} :
    iprop(ctx m ∗ edge c j ∗ owing c (owedAt c j)
      ∗ (∀ r, ⌜r.1 = BitVec.ofNat 32 (i 0).val ∧ r.2.1 = c⌝ -∗ ((if j = 0 then nbr c 0 else emp) ∗ semVal (barC c) 0 ∗ owing c (O c (3 * j) (3 * j))) -∗ Q r))
      ⊢ wp frame (wpE (defs₀ (F := F)) 𝒱₀ (c : Thread nD τ) none) Set.univ (k0_part1 (F := F) i xM (Memref.isWhole_whole _) a2 h2 a3 h3 bM (Memref.isWhole_whole _) kM (Memref.isWhole_whole _)
          cc0_scratch2 cc0_scratch3 cc0_scratch4 cc0_scratch5) Q := by
  unfold edge owedAt
  by_cases h0 : j = 0
  · subst h0
    simp only [if_pos]
    exact wp_part1_first m c i a2 h2 a3 h3 hj
  · simp only [if_neg h0]
    rw [min_eq_left (by omega)]
    iintro ⟨-, He, HO, Hk⟩
    iapply (wp_part1_later c i a2 h2 a3 h3 (by omega))
    iintro %r %hr
    iapply Hk $$ %r []
    · ipureintro; exact hr
    isplitr; · iempintro
    isplitl [He] <;> iassumption

include hj in
/-- Part 3 at every point. -/
theorem wp_part3 (v2 v24 v64 v65 : BitVec 32) (v66 : BitVec 1) (hj8 : j < 8) {Q} :
    iprop(ctx m ∗ slot c (3 * j) (acc m c (3 * j)) ∗ (if j = 0 then nbr c 0 else emp) ∗ (if 0 < 3 * j then crC c (3 * j - 1) else emp)
        ∗ posS c (3 * j) ∗ posC c (3 * j - 1) ∗ tokS c (3 * j) ∗ tokR c (3 * j) ∗ owing c (O c (3 * j) (3 * j))
      ∗ (∀ r, (crS c (3 * j) ∗ posS c (3 * j) ∗ posC c (3 * j) ∗ owing c (O c (3 * j + 1) (3 * j))) -∗ Q r))
      ⊢ wp frame (wpE (defs₀ (F := F)) 𝒱₀ (c : Thread nD τ) none) Set.univ (k0_part3 (F := F) i xM (Memref.isWhole_whole _) a2 h2 a3 h3 bM (Memref.isWhole_whole _) kM (Memref.isWhole_whole _)
          cc0_scratch2 cc0_scratch3 cc0_scratch4 cc0_scratch5 (BitVec.ofNat 32 (i 0).val) c v2 v24 v64 v65 v66) Q := by
  by_cases h0 : j = 0
  · rw [if_pos h0, if_neg (by omega), show 3 * j - 1 = 3 * j by omega]
    iintro ⟨#Hx, Hs, Hn, -, Hp, HpC, Ht, Htr, HO, Hk⟩
    iapply (wp_part3_first m c i j hj a2 h2 a3 h3 v2 v24 v64 v65 v66 h0)
    isplitr; · iexact Hx
    isplitl [Hs]; · iexact Hs
    isplitl [Hn]; · rw [show 3 * j = 0 by omega]; iexact Hn
    isplitl [Hp]; · iexact Hp
    isplitl [HpC]; · iexact HpC
    isplitl [Ht]; · iexact Ht
    isplitl [Htr]; · iexact Htr
    isplitl [HO] <;> iassumption
  · rw [if_neg h0, if_pos (by omega)]
    iintro ⟨#Hx, Hs, -, Hcc, Hp, HpC, Ht, Htr, HO, Hk⟩
    iapply (wp_part3_later m c i j hj a2 h2 a3 h3 v2 v24 v64 v65 v66 h0 hj8)
    isplitr; · iexact Hx
    isplitl [Hs]; · iexact Hs
    isplitl [Hcc]; · iexact Hcc
    isplitl [Hp]; · iexact Hp
    isplitl [HpC]; · iexact HpC
    isplitl [Ht]; · iexact Ht
    isplitl [Htr]; · iexact Htr
    isplitl [HO] <;> iassumption

include hj in
/-- Part 9 at every point. -/
theorem wp_part9 (v13 v24 v243 v255 v257 : BitVec 32) (arg0 : BitVec 32) (hj8 : j < 8) {Q} :
    iprop(ctx m ∗ xIn m c (4 * j + 3) ∗ crS c (3 * j + 2) ∗ posS c (3 * j + 2) ∗ crR c (3 * j + 2) ∗ posR c (3 * j + 2) ∗ reached ER (rcvC c (3 * j + 2 + 1)) ((3 * j + 2 + 1) / 3)
        ∗ (if 3 * j + 2 < 23 then tokC c (3 * j + 2) else emp) ∗ owing c (O c (3 * j + 2 + 1) (3 * j + 2))
      ∗ (∀ r, ⌜r = acc m (prv c) (3 * j + 2)⌝ -∗ (xOut m c (4 * j + 3) ∗ posS c (3 * j + 2 + 3) ∗ posR c (3 * j + 2 + 3) ∗ slot c (3 * j + 2 + 1) (acc m (prv c) (3 * j + 2))
          ∗ (if j = 7 then slotAny c (3 * j + 2) else emp) ∗ owing c (owedAt c (j + 1))) -∗ Q r))
      ⊢ wp frame (wpE (defs₀ (F := F)) 𝒱₀ (c : Thread nD τ) none) Set.univ (k0_part9 (F := F) i xM (Memref.isWhole_whole _) a2 h2 a3 h3 bM (Memref.isWhole_whole _) kM (Memref.isWhole_whole _)
          cc0_scratch2 cc0_scratch3 cc0_scratch4 cc0_scratch5 arg0 c v13 v24 v243 v255 v257) Q := by
  unfold owedAt
  rw [if_neg (Nat.succ_ne_zero j)]
  by_cases h0 : j = 7
  · rw [if_pos h0, if_neg (by omega), show min (3 * (j + 1)) 23 = 3 * j + 2 by omega, show 3 * (j + 1) = 3 * j + 2 + 1 by omega]
    iintro ⟨#Hx, HX, Hc, Hp, Hcr, Hpr, -, -, HO, Hk⟩
    iapply (wp_part9_last m c i j hj a2 h2 a3 h3 v13 v24 v243 v255 v257 arg0 h0)
    isplitr; · iexact Hx
    isplitl [HX]; · iexact HX
    isplitl [Hc]; · iexact Hc
    isplitl [Hp]; · iexact Hp
    isplitl [Hcr]; · iexact Hcr
    isplitl [Hpr]; · iexact Hpr
    isplitl [HO] <;> iassumption
  · rw [if_neg h0, if_pos (by omega), show min (3 * (j + 1)) 23 = 3 * j + 2 + 1 by omega, show 3 * (j + 1) = 3 * j + 2 + 1 by omega]
    iintro ⟨#Hx, HX, Hc, Hp, Hcr, Hpr, #Hrn, Htc, HO, Hk⟩
    iapply (wp_part9_later m c i j hj a2 h2 a3 h3 v13 v24 v243 v255 v257 arg0 (by omega))
    isplitr; · iexact Hx
    isplitl [HX]; · iexact HX
    isplitl [Hc]; · iexact Hc
    isplitl [Hp]; · iexact Hp
    isplitl [Hcr]; · iexact Hcr
    isplitl [Hpr]; · iexact Hpr
    isplitr; · iexact Hrn
    isplitl [Htc]; · iexact Htc
    isplitl [HO]; · iexact HO
    iintro %r %hr ⟨H1, H2, H3, H4, H5⟩
    iapply Hk $$ %r []
    · ipureintro; exact hr
    isplitl [H1]; · iexact H1
    isplitl [H2]; · iexact H2
    isplitl [H3]; · iexact H3
    isplitl [H4]; · iexact H4
    isplitr; · iempintro
    iexact H5

/-- What one point takes and leaves. -/
def pointPre : sProp 𝕄 :=
  iprop(ctx m ∗ edge c j ∗ poss c j ∗ bufs m c j ∗ (stepToks c (3 * j) ∗ stepToks c (3 * j + 1) ∗ stepToks c (3 * j + 2))
    ∗ (tokX c (4 * j) ∗ tokX c (4 * j + 1) ∗ tokX c (4 * j + 2) ∗ tokX c (4 * j + 3))
    ∗ owing c (owedAt c j) ∗ wIn m c j a2 ∗ (∃ d, owns (c : Thread nD τ) a3 fullShare d))
def pointPost : sProp 𝕄 :=
  iprop(semVal (barC c) 0 ∗ poss c (j + 1) ∗ bufs m c (j + 1) ∗ (if j = 7 then slotAny c (3 * j + 2) else emp)
    ∗ owing c (owedAt c (j + 1)) ∗ wIn m c j a2 ∗ owns (c : Thread nD τ) a3 fullShare (outB m c j))

include hj in
set_option maxHeartbeats 1000000 in
theorem wp_point (hj8 : j < 8) {Q : PUnit → sProp 𝕄} :
    iprop(pointPre m c j a2 a3 ∗ (pointPost m c j a2 a3 -∗ |={Set.univ}=> Q ⟨⟩)) ⊢ wp frame (wpE (defs₀ (F := F)) 𝒱₀ (c : Thread nD τ) none) Set.univ (cc0_body (F := F) i xM (Memref.isWhole_whole _) a2 h2 a3 h3 bM (Memref.isWhole_whole _) kM (Memref.isWhole_whole _)
          cc0_scratch2 cc0_scratch3 cc0_scratch4 cc0_scratch5) Q := by
  rw [cc0_body_eq_skeleton]; unfold cc0_body_skel
  simp only [Prog.lift, Prog.bind_op, Prog.bind_ret, Prog.pure_eq_ret]
  unfold pointPre poss bufs stepToks
  iintro ⟨⟨#Hx, He, ⟨⟨HS0, HS1, HS2⟩, ⟨HR0, HR1, HR2⟩, HpX, HpC⟩, ⟨Hxa, Hb, Hs⟩,
    ⟨⟨Ht0, Htr0, Hcr0, Htc0, Hcc0⟩, ⟨Ht1, Htr1, Hcr1, Htc1, Hcc1⟩, ⟨Ht2, Htr2, Hcr2, Htc2, Hcc2⟩⟩, ⟨Hx0, Hx1, Hx2, Hx3⟩, HO, Hw, ⟨%d, Hout⟩⟩, Hk⟩
  rw [wp_bind]
  iapply (wp_part1 m c i j hj a2 h2 a3 h3 hj8)
  isplitr; · iexact Hx
  isplitl [He]; · iexact He
  isplitl [HO]; · iexact HO
  iintro %r %hr ⟨Hn, Hz, HO⟩
  obtain ⟨arg0, d0, v2, v13, v24, v30, v31, v32, c0⟩ := r
  obtain ⟨hr1, hr2⟩ := hr
  dsimp only at hr1 hr2
  subst hr1 hr2
  dsimp only
  rw [wp_bind]
  iapply (wp_part2 m _ i j hj a2 h2 a3 h3 (3 * j) (3 * j) v30 v31 v32 c0 _ hj8)
  unfold xIn xOut
  isplitr; · iexact Hx
  isplitl [Hx0 HpX Hxa Hb]
  · isplitl [Hx0]; · iexact Hx0
    isplitl [HpX]; · iexact HpX
    isplitl [Hxa] <;> iassumption
  isplitl [Hw]; · iexact Hw
  isplitl [Hs]; · iexact Hs
  isplitl [HO]; · iexact HO
  iintro %r ⟨⟨Hb, HpX, Hxa⟩, Hw, Hs, HO⟩
  obtain ⟨v64, v65, v66⟩ := r
  dsimp only
  rw [wp_bind]
  iapply (wp_part3 m _ i j hj a2 h2 a3 h3 v2 v24 v64 v65 v66 hj8)
  isplitr; · iexact Hx
  isplitl [Hs]; · iexact Hs
  isplitl [Hn]; · iexact Hn
  isplitl [Hcc0]; · iexact Hcc0
  isplitl [HS0]; · iexact HS0
  isplitl [HpC]; · iexact HpC
  isplitl [Ht0]; · iexact Ht0
  isplitl [Htr0]; · iexact Htr0
  isplitl [HO]; · iexact HO
  iintro %r ⟨Hc, HS0, HpC, HO⟩
  obtain ⟨v84, v99, c4, v100⟩ := r
  dsimp only
  rw [wp_bind]
  ihave HR1 := (pos_reached (rcvC d0 (3 * j + 1)) ((3 * j + 1) / 3)) $$ HR1
  icases HR1 with ⟨HR1, #HR1r⟩
  ihave HR2 := (pos_reached (rcvC d0 (3 * j + 2)) ((3 * j + 2) / 3)) $$ HR2
  icases HR2 with ⟨HR2, #HR2r⟩
  iapply (wp_part4 m _ i j hj a2 h2 a3 h3 v13 v24 v84 v99 c4 v100 hj8)
  unfold xIn xOut
  isplitr; · iexact Hx
  isplitl [Hx1 HpX Hxa Hb]
  · isplitl [Hx1]; · iexact Hx1
    isplitl [HpX]; · iexact HpX
    isplitl [Hxa]; · iexact Hxa
    iapply (xbuf_any _); iexact Hb
  isplitl [Hc]; · iexact Hc
  isplitl [HS0]; · iexact HS0
  isplitl [Hcr0]; · iexact Hcr0
  isplitl [HR0]; · iexact HR0
  isplitr; · iexact HR1r
  isplitl [Htc0]; · iapply (Entails.of_eq (if_pos (show 3 * j < 23 by omega))); iexact Htc0
  isplitl [HO]; · iexact HO
  iintro %r ⟨⟨Hb, HpX, Hxa⟩, HS0, HR0, Hs, HO⟩
  rw [wp_bind]
  iapply (wp_part5 m _ i j hj a2 h2 a3 h3 v84 _)
  isplitl [Hb]; · iexact Hb
  isplitl [Hw]; · iexact Hw
  isplitl [Hs]; · iexact Hs
  iintro %v165 ⟨Hb, Hw, Hs⟩
  rw [wp_bind]
  iapply (wp_part6 m _ i j hj a2 h2 a3 h3 v2 v24 hj8)
  unfold xIn xOut
  isplitr; · iexact Hx
  isplitl [Hx2 HpX Hxa Hb]
  · isplitl [Hx2]; · iexact Hx2
    isplitl [HpX]; · iexact HpX
    isplitl [Hxa] <;> iassumption
  isplitl [Hs]; · iexact Hs
  isplitl [Hcc1]; · iapply (Entails.of_eq (if_pos (show 0 < 3 * j + 1 by omega))); iexact Hcc1
  isplitl [HS1]; · iexact HS1
  isplitl [HpC]; · iexact HpC
  isplitl [Ht1]; · iexact Ht1
  isplitl [Htr1]; · iexact Htr1
  isplitl [HO]; · iexact HO
  iintro %r ⟨⟨Hb, HpX, Hxa⟩, Hc, HS1, HpC, HO⟩
  rw [wp_bind]
  iapply (wp_part7 m _ i j hj a2 h2 a3 h3 v13 v24 v165 _ hj8)
  isplitr; · iexact Hx
  isplitl [Hb]; · iexact Hb
  isplitl [Hw]; · iexact Hw
  isplitl [Hc]; · iexact Hc
  isplitl [HS1]; · iexact HS1
  isplitl [Hcr1]; · iexact Hcr1
  isplitl [HR1]; · iexact HR1
  isplitr; · iexact HR2r
  isplitl [Htc1]; · iapply (Entails.of_eq (if_pos (show 3 * j + 1 < 23 by omega))); iexact Htc1
  isplitl [HO]; · iexact HO
  iintro %r ⟨Hb, Hw, HS1, HR1, Hs, HO⟩
  obtain ⟨v223, v224, z⟩ := r
  dsimp only
  rw [wp_bind]
  iapply (wp_part8 m _ i j hj a2 h2 a3 h3 v2 v24 v223 v224 z _ hj8)
  isplitr; · iexact Hx
  isplitl [Hs]; · iexact Hs
  isplitl [Hcc2]; · iapply (Entails.of_eq (if_pos (show 0 < 3 * j + 2 by omega))); iexact Hcc2
  isplitl [HS2]; · iexact HS2
  isplitl [HpC]; · iexact HpC
  isplitl [Ht2]; · iexact Ht2
  isplitl [Htr2]; · iexact Htr2
  isplitl [HO]; · iexact HO
  iintro %r ⟨Hc, HS2, HpC, HO⟩
  obtain ⟨v243, v255, v257⟩ := r
  dsimp only
  rw [wp_bind]
  ihave HR0 := (pos_reached (rcvC d0 (3 * j + 3)) ((3 * j + 3) / 3)) $$ HR0
  icases HR0 with ⟨HR0, #HR0r⟩
  iapply (wp_part9 m _ i j hj a2 h2 a3 h3 v13 v24 v243 v255 v257 _ hj8)
  unfold xIn xOut
  isplitr; · iexact Hx
  isplitl [Hx3 HpX Hxa Hb]
  · isplitl [Hx3]; · iexact Hx3
    isplitl [HpX]; · iexact HpX
    isplitl [Hxa] <;> iassumption
  isplitl [Hc]; · iexact Hc
  isplitl [HS2]; · iexact HS2
  isplitl [Hcr2]; · iexact Hcr2
  isplitl [HR2]; · iexact HR2
  isplitr; · iexact HR0r
  isplitl [Htc2]; · iexact Htc2
  isplitl [HO]; · iexact HO
  iintro %v287 %hv ⟨⟨Hb, HpX, Hxa⟩, HS2, HR2, Hs, He, HO⟩
  subst hv
  iapply (wp_loadX _ _) $$ Hb; iintro Hb
  iapply (wp_loadAll _ a2 zero2 _) $$ Hw; iintro Hw
  iapply (wp_loadAll _ a3 zero2 _) $$ Hout; iintro Hout
  iapply (wp_storeAll _ a3 zero2 _) $$ Hout; iintro Hout
  rw [wp_ret]
  iapply Hk
  unfold pointPost poss bufs outB
  rw [acc_2, xch_congr m _ (show (4 * j + 3) % 4 = 3 % 4 by omega)]
  isplitl [Hz]; · iexact Hz
  isplitl [HS0 HS1 HS2 HR0 HR1 HR2 HpX HpC]
  · isplitl [HS0 HS1 HS2]
    · isplitl [HS0]; · iexact HS0
      isplitl [HS1]
      · rw [show 3 * (j + 1) + 1 = 3 * j + 1 + 3 by omega]; iexact HS1
      · rw [show 3 * (j + 1) + 2 = 3 * j + 2 + 3 by omega]; iexact HS2
    isplitl [HR0 HR1 HR2]
    · isplitl [HR0]
      · iexact HR0
      isplitl [HR1]
      · rw [show 3 * (j + 1) + 1 = 3 * j + 1 + 3 by omega]; iexact HR1
      · rw [show 3 * (j + 1) + 2 = 3 * j + 2 + 3 by omega]; iexact HR2
    isplitl [HpX]; · iexact HpX
    iexact HpC
  isplitl [Hxa Hb Hs]
  · isplitl [Hxa]; · iexact Hxa
    isplitl [Hb]; · iapply (xbuf_any _); iexact Hb
    iapply (slot_any _ _); iexact Hs
  isplitl [He]; · iexact He
  isplitl [HO]; · iexact HO
  isplitl [Hw] <;> iassumption

end Point

end Cert.RingProof

end
-- ==== Proof.Oblig.lean ====
/-
# The proof data and the body obligation

The state before each grid point, what the two windows hold, and what the device then owes; the body meets them.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem grid_val (t : Fin grid0.N) : (grid0.coords t 0).val = t.val := by revert t; decide +kernel

section Data

/-- Before point `n`, while points remain. -/
def openAt (c : Dev nD) (n : ℕ) : sProp 𝕄 :=
  iprop(ctx m ∗ edge c n ∗ poss c n ∗ bufs m c n ∗ (bigSep (Finset.Ico (3 * n) 24) (stepToks c)) ∗ bigSep (Finset.Ico (4 * n) 32) (tokX c))

/-- After the last: every buffer is back and every cell of the device is closed at zero. -/
def closed (c : Dev nD) : sProp 𝕄 :=
  iprop((xAll m c ∗ xbufAny c ∗ slotAny c 0 ∗ slotAny c 1)
    ∗ (semVal (sndC c 0) 0 ∗ semVal (sndC c 1) 0 ∗ semVal (sndC c 2) 0 ∗ semVal (rcvC c 0) 0 ∗ semVal (rcvC c 1) 0 ∗ semVal (rcvC c 2) 0
      ∗ semVal (xC c) 0 ∗ semVal (crdC c) 0) ∗ semVal (barC c) 0)

def stateAt (c : Dev nD) (n : ℕ) : sProp 𝕄 := if n < 8 then openAt m c n else closed m c

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => wblk m c t.val
    | ⟨1, _⟩ => outB m c t.val
  Φ t := stateAt m c t.val
  q _ := fullShare
  owed t := owedAt c t.val

theorem before_w (c : Dev nD) (t : Fin cfg0.N) (d) : (dats m ρ 0 c).before (0 : Fin 2) t d = wblk m c t.val := by
  unfold Dat.before; rw [if_pos (fetch0_0 t)]
  have ht : (⟨t.val % 8, by rw [N_0]; exact Nat.mod_lt _ (by decide)⟩ : Fin grid0.N) = t :=
    Fin.ext (Nat.mod_eq_of_lt (lt_of_lt_of_eq t.isLt N_0))
  show (win0_0.blk t).view.read (Elt F) _ = _
  unfold wblk
  rw [ht]

end Data

section Close

/-- A cell past its last round gives its counter at zero back. -/
theorem close_at (g : GSem nD τ sig) (r : ℕ) (hi : ctx (F := F) m ⊢ iprop(∃ κ : ℕ, cellInv ER (Rd m) κ g)) (hl : ∀ r' ≥ r, (Rd (F := F) m).duties g r' = ∅) :
    iprop(ctx m ∗ pos g r) ⊢ (|={Set.univ}=> semVal g 0 : sProp 𝕄) := by
  unfold pos
  iintro ⟨#Hx, Hat, -⟩
  ihave HI := hi $$ Hx
  icases HI with ⟨%κ, #HI⟩
  iapply (Rounds.cell_close ER (Rd m) (Set.mem_univ κ) (fun h => h) (R := r) hl)
  isplitr; · iexact HI
  iexact Hat

theorem closed_intro (c : Dev nD) (n : ℕ) (hn : n = 7) :
    iprop(ctx m ∗ semVal (barC c) 0 ∗ poss c (n + 1) ∗ bufs m c (n + 1) ∗ (if n = 7 then slotAny c (3 * n + 2) else emp)) ⊢ (|={Set.univ}=> closed m c : sProp 𝕄) := by
  rw [if_pos hn]
  subst hn
  unfold poss bufs closed
  iintro ⟨#Hx, Hz, ⟨⟨HS0, HS1, HS2⟩, ⟨HR0, HR1, HR2⟩, HpX, HpC⟩, ⟨Hxa, Hb, Hs⟩, Hs'⟩
  imod (close_at m (sndC c 24) 8 (inv_snd m c 24) (later_snd m c 24)) $$ [HS0] with HS0
  · isplitr; · iexact Hx
    iexact HS0
  imod (close_at m (sndC c 25) 8 (inv_snd m c 25) (later_snd m c 25)) $$ [HS1] with HS1
  · isplitr; · iexact Hx
    iexact HS1
  imod (close_at m (sndC c 26) 8 (inv_snd m c 26) (later_snd m c 26)) $$ [HS2] with HS2
  · isplitr; · iexact Hx
    iexact HS2
  imod (close_at m (rcvC c 24) 8 (inv_rcv m c 24) (later_rcv m c 24)) $$ [HR0] with HR0
  · isplitr; · iexact Hx
    iexact HR0
  imod (close_at m (rcvC c 25) 8 (inv_rcv m c 25) (later_rcv m c 25)) $$ [HR1] with HR1
  · isplitr; · iexact Hx
    iexact HR1
  imod (close_at m (rcvC c 26) 8 (inv_rcv m c 26) (later_rcv m c 26)) $$ [HR2] with HR2
  · isplitr; · iexact Hx
    iexact HR2
  imod (close_at m (xC c) 32 (inv_x m c) (later_x m c)) $$ [HpX] with HpX
  · isplitr; · iexact Hx
    iexact HpX
  imod (close_at m (crdC c) 23 (inv_crd m c) (later_crd m c)) $$ [HpC] with HpC
  · isplitr; · iexact Hx
    iexact HpC
  imodintro
  isplitl [Hxa Hb Hs Hs']
  · isplitl [Hxa]; · iexact Hxa
    isplitl [Hb]; · iexact Hb
    isplitl [Hs]
    · iapply (Entails.of_eq (slotAny_congr c (show (3 * 8) % 2 = 0 % 2 by omega))); iexact Hs
    · iapply (Entails.of_eq (slotAny_congr c (show 23 % 2 = 1 % 2 by omega))); iexact Hs'
  isplitr [Hz]
  · isplitl [HS0]; · iexact HS0
    isplitl [HS1]; · iexact HS1
    isplitl [HS2]; · iexact HS2
    isplitl [HR0]; · iexact HR0
    isplitl [HR1]; · iexact HR1
    isplitl [HR2]; · iexact HR2
    isplitl [HpX] <;> iassumption
  iexact Hz

end Close

theorem sep_assoc_eq (P Q R : sProp 𝕄) : iprop((P ∗ Q) ∗ R) = iprop(P ∗ Q ∗ R) := equiv_iff.mp ⟨Idealize.SL.BI.sep_assoc, Idealize.SL.BI.sep_assoc'⟩
theorem pop (Φ : ℕ → sProp 𝕄) {a b : ℕ} (h : a < b) : bigSep (Finset.Ico a b) Φ = iprop(Φ a ∗ bigSep (Finset.Ico (a + 1) b) Φ) := by
  rw [Ico_bot h]; exact bigSep_insert (not_mem_Ico_succ _ _)

/-- The tokens of a point taken off the front. -/
theorem take3 (Φ : ℕ → sProp 𝕄) (n : ℕ) (h : n < 8) :
    bigSep (Finset.Ico (3 * n) 24) Φ = iprop((Φ (3 * n) ∗ Φ (3 * n + 1) ∗ Φ (3 * n + 2)) ∗ bigSep (Finset.Ico (3 * (n + 1)) 24) Φ) := by
  rw [pop Φ (show 3 * n < 24 by omega), pop Φ (show 3 * n + 1 < 24 by omega), pop Φ (show 3 * n + 1 + 1 < 24 by omega), sep_assoc_eq, sep_assoc_eq,
    show 3 * (n + 1) = 3 * n + 1 + 1 + 1 by omega]
theorem take4 (Φ : ℕ → sProp 𝕄) (n : ℕ) (h : n < 8) :
    bigSep (Finset.Ico (4 * n) 32) Φ = iprop((Φ (4 * n) ∗ Φ (4 * n + 1) ∗ Φ (4 * n + 2) ∗ Φ (4 * n + 3)) ∗ bigSep (Finset.Ico (4 * (n + 1)) 32) Φ) := by
  rw [pop Φ (show 4 * n < 32 by omega), pop Φ (show 4 * n + 1 < 32 by omega), pop Φ (show 4 * n + 1 + 1 < 32 by omega), pop Φ (show 4 * n + 1 + 1 + 1 < 32 by omega),
    sep_assoc_eq, sep_assoc_eq, sep_assoc_eq, show 4 * (n + 1) = 4 * n + 1 + 1 + 1 + 1 by omega]

set_option maxRecDepth 4000 in
/-- The body at point `t`, on what the pipeline hands it. -/
theorem body_at (c : Dev nD) (t : Fin cfg0.N) :
    iprop(stateAt m c t.val ∗ (dats m ρ 0 c).owesAt 0 t.castSucc
        ∗ (∃ d, owns (c : Thread nD τ) (st0_0 t) fullShare ((dats m ρ 0 c).before (0 : Fin 2) t d))
        ∗ (∃ d, owns (c : Thread nD τ) (st0_1 t) fullShare ((dats m ρ 0 c).before (1 : Fin 2) t d)))
      ⊢ wp frame (wpE (defs₀ (F := F)) 𝒱₀ (c : Thread nD τ) none) Set.univ (bodyAt0 t) fun _ =>
          iprop(stateAt m c (t.val + 1) ∗ (dats m ρ 0 c).owesAt 0 t.succ
            ∗ owns (c : Thread nD τ) (st0_0 t) fullShare (wblk m c t.val) ∗ owns (c : Thread nD τ) (st0_1 t) fullShare (outB m c t.val)) := by
  have h8 : t.val < 8 := lt_of_lt_of_eq t.isLt N_0
  simp only [before_w m ρ c t]
  unfold stateAt
  rw [if_pos h8]
  unfold openAt Dat.owesAt Pipeline.owesWithin
  rw [take3 _ _ h8, take4 _ _ h8, show (dats m ρ 0 c).owed t.castSucc = owedAt c t.val from rfl, show (dats m ρ 0 c).owed t.succ = owedAt c (t.val + 1) from rfl]
  iintro ⟨⟨#Hx, He, Hp, Hb, ⟨H3, H3'⟩, ⟨H4, H4'⟩⟩, ⟨%W, -, HO⟩, ⟨%d0, Hw⟩, ⟨%d1, Hout⟩⟩
  iapply (wp_point m c (grid0.coords t) t.val (grid_val t) (st0_0 t) (hstage0_0 ((cfg0.slots t 0).cast nbuf0_0)) (st0_1 t) (hstage0_1 ((cfg0.slots t 1).cast nbuf0_1)) h8)
  unfold pointPre pointPost owing
  isplitl [He Hp Hb H3 H4 HO Hw Hout]
  · isplitr; · iexact Hx
    isplitl [He]; · iexact He
    isplitl [Hp]; · iexact Hp
    isplitl [Hb]; · iexact Hb
    isplitl [H3]; · iexact H3
    isplitl [H4]; · iexact H4
    isplitl [HO]; · iexists W; iexact HO
    isplitl [Hw]; · iexact Hw
    iexists _; iexact Hout
  iintro ⟨Hz, Hp, Hb, Hs, ⟨%W', HO⟩, Hw, Hout⟩
  by_cases h7 : t.val = 7
  · rw [if_neg (show ¬ t.val + 1 < 8 by omega)]
    imod (closed_intro m c t.val h7) $$ [Hz Hp Hb Hs] with Hc
    · isplitr; · iexact Hx
      isplitl [Hz]; · iexact Hz
      isplitl [Hp]; · iexact Hp
      isplitl [Hb] <;> iassumption
    imodintro
    isplitl [Hc]; · iexact Hc
    isplitl [HO]
    · iexists W'
      isplitr; · ipureintro; exact fun _ _ => Or.inl trivial
      iexact HO
    isplitl [Hw] <;> iassumption
  · rw [if_pos (show t.val + 1 < 8 by omega)]
    unfold edge
    rw [if_neg (Nat.succ_ne_zero _)]
    imodintro
    isplitl [Hz Hp Hb H3' H4']
    · isplitr; · iexact Hx
      isplitl [Hz]; · iexact Hz
      isplitl [Hp]; · iexact Hp
      isplitl [Hb]; · iexact Hb
      isplitl [H3'] <;> iassumption
    isplitl [HO]
    · iexists W'
      isplitr; · ipureintro; exact fun _ _ => Or.inl trivial
      iexact HO
    isplitl [Hw] <;> iassumption

theorem body_obligation (c : Dev nD) : BodyObligation (dats (F := F) m ρ 0 c) (defs₀ (F := F)) 𝒱₀ 0 Set.univ := fun t => by
  rw [bigSep_W0, bigSep_W0]
  exact body_at m ρ c t

end Cert.RingProof

end
-- ==== Proof.Deal.lean ====
/-
# The launch: what every device is dealt

The cells' invariants are set up for all devices at once; the duty tokens are dealt to the devices that pay them; the credit for
what the neighbours owe is dealt to the device it is owed to.
-/
module

public import proofs.«01_k».proof.Proof.Oblig
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Conjunctions over the steps -/

theorem fin_Ico (n : ℕ) (Φ : ℕ → sProp 𝕄) : (bigSep Finset.univ fun k : Fin n => Φ k.val) = bigSep (Finset.Ico 0 n) Φ := by
  have h : Finset.Ico 0 n = Finset.univ.map (Fin.valEmbedding : Fin n ↪ ℕ) := by
    ext x
    rw [Finset.mem_Ico, Finset.mem_map]
    exact ⟨fun h => ⟨⟨x, h.2⟩, Finset.mem_univ _, rfl⟩, by rintro ⟨y, -, rfl⟩; exact ⟨Nat.zero_le _, y.isLt⟩⟩
  rw [h, bigSep_map]; rfl

theorem Ico_shift (n : ℕ) (Φ : ℕ → sProp 𝕄) : (bigSep (Finset.Ico 1 (n + 1)) fun k => Φ (k - 1)) = bigSep (Finset.Ico 0 n) Φ := by
  have h : Finset.Ico 1 (n + 1) = (Finset.Ico 0 n).map ⟨fun x => x + 1, fun a b e => Nat.succ.inj e⟩ := by
    ext x
    rw [Finset.mem_Ico, Finset.mem_map]
    constructor
    · intro h
      exact ⟨x - 1, Finset.mem_Ico.mpr (by omega), by show x - 1 + 1 = x; omega⟩
    · rintro ⟨y, hy, rfl⟩
      have := Finset.mem_Ico.mp hy
      exact ⟨by show 1 ≤ y + 1; omega, by show y + 1 < n + 1; omega⟩
  rw [h, bigSep_map]
  exact bigSep_congr fun x _ => rfl

theorem all_but_last (Φ : ℕ → sProp 𝕄) :
    (bigSep (Finset.Ico 0 24) fun g => if g < 23 then Φ g else iprop(emp)) = iprop(emp ∗ bigSep (Finset.Ico 0 23) Φ) := by
  rw [show Finset.Ico 0 24 = insert 23 (Finset.Ico 0 23) from by ext x; rw [Finset.mem_insert, Finset.mem_Ico, Finset.mem_Ico]; omega,
    bigSep_insert (fun h => absurd (Finset.mem_Ico.mp h).2 (lt_irrefl _)), if_neg (lt_irrefl _)]
  exact congrArg _ (bigSep_congr fun x hx => if_pos (Finset.mem_Ico.mp hx).2)

theorem all_but_first (Φ : ℕ → sProp 𝕄) :
    (bigSep (Finset.Ico 0 24) fun g => if 0 < g then Φ (g - 1) else iprop(emp)) = iprop(emp ∗ bigSep (Finset.Ico 0 23) Φ) := by
  rw [pop _ (show 0 < 24 by decide), if_neg (lt_irrefl _), ← Ico_shift 23 Φ]
  exact congrArg _ (bigSep_congr fun x hx => if_pos (by have := (Finset.mem_Ico.mp hx).1; omega))

/-- The tokens of every step, kind by kind. -/
theorem steps_intro (c : Dev nD) :
    iprop((bigSep (Finset.Ico 0 24) (tokS c)) ∗ (bigSep (Finset.Ico 0 24) (tokR c)) ∗ (bigSep (Finset.Ico 0 24) (crR c))
        ∗ (bigSep (Finset.Ico 0 23) (tokC c)) ∗ bigSep (Finset.Ico 0 23) (crC c))
      ⊢ (bigSep (Finset.Ico 0 24) (stepToks c) : sProp 𝕄) := by
  unfold stepToks
  rw [bigSep_sep', bigSep_sep', bigSep_sep', bigSep_sep', all_but_last, all_but_first]
  iintro ⟨H1, H2, H3, H4, H5⟩
  isplitl [H1]; · iexact H1
  isplitl [H2]; · iexact H2
  isplitl [H3]; · iexact H3
  isplitl [H4]
  · isplitr; · iempintro
    iexact H4
  · isplitr; · iempintro
    iexact H5

/-! ## The cells and the tokens minted -/

/-- The kernel's own semaphores: three send, three receive, the chunk's, the credit's. -/
abbrev osem : Fin 8 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's duties by cell: the barrier's two, a send and a receive per step, a credit per step but the last, a chunk per copy. -/
abbrev Duty : Type := Bool ⊕ Fin 24 ⊕ Fin 24 ⊕ Fin 23 ⊕ Fin 32

def tokOf : Dev nD × Duty → GSem nD τ sig × ℕ × Bool
  | (c, .inl b) => (barC c, 0, b)
  | (c, .inr (.inl g)) => (sndC c g.val, g.val / 3, false)
  | (c, .inr (.inr (.inl g))) => (rcvC c g.val, g.val / 3, false)
  | (c, .inr (.inr (.inr (.inl k)))) => (crdC c, k.val, false)
  | (c, .inr (.inr (.inr (.inr n)))) => (xC c, n.val, false)

/-- A number telling the duties of a device apart: the semaphore, the round and the name. -/
def semNo : SemLoc sig → ℕ
  | .reg s => s.val
  | .dma q => 2 + q.val

theorem tokOf_injective : Function.Injective tokOf := by
  rintro ⟨c, d⟩ ⟨c', d'⟩ h
  have h1 : c = c' := by
    have := congrArg (fun x : GSem nD τ sig × ℕ × Bool => x.1.1.1) h
    rcases d with b | g | g | k | n <;> rcases d' with b' | g' | g' | k' | n' <;> exact this
  subst h1
  have h2 := congrArg (fun x : GSem nD τ sig × ℕ × Bool => semNo x.1.2) h
  have h3 := congrArg (fun x : GSem nD τ sig × ℕ × Bool => x.2.1) h
  have h4 := congrArg (fun x : GSem nD τ sig × ℕ × Bool => x.2.2) h
  rcases d with b | g | g | k | n <;> rcases d' with b' | g' | g' | k' | n' <;>
    simp only [tokOf, semNo, sndC, rcvC, xC, crdC, barC, sS, rS, xS, cS, bS] at h2 h3 h4 <;>
    first
      | (exfalso; omega)
      | (rw [h4])
      | (rw [show g = g' from Fin.ext (by omega)])
      | (rw [show k = k' from Fin.ext (by omega)])
      | (rw [show n = n' from Fin.ext (by omega)])
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf ringCells ringToks)

/-- The duties of device `c`'s own cells. -/
def toks (c : Dev nD) : sProp 𝕄 :=
  iprop((dutyTok ER (barC c) 0 false ∗ dutyTok ER (barC c) 0 true)
    ∗ (bigSep (Finset.Ico 0 24) fun g => dutyTok ER (sndC c g) (g / 3) false)
    ∗ (bigSep (Finset.Ico 0 24) fun g => dutyTok ER (rcvC c g) (g / 3) false)
    ∗ (bigSep (Finset.Ico 0 23) fun k => dutyTok ER (crdC c) k false)
    ∗ bigSep (Finset.Ico 0 32) fun n => dutyTok ER (xC c) n false)

/-- What the launch deals device `c`: its cells' rounds, its positions, its cells' duties. -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ toks c)

theorem toks_of_mint (c : Dev nD) :
    (bigSep Finset.univ fun d : Duty => (fun x => (dutyTok ER x.1 x.2.1 x.2.2 : sProp 𝕄)) (tokOf (c, d))) = toks c := by
  unfold toks
  rw [bigSep_univ_sum, bigSep_univ_sum, bigSep_univ_sum, bigSep_univ_sum, ← fin_Ico, ← fin_Ico, ← fin_Ico, ← fin_Ico]
  congr 1
  exact bigSep_univ_eq_bigSepL [false, true] (by decide) (by decide) _

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_of_mint c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants are set up for every device at once -/

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem ownSems0_eq (c : Dev nD) : (Pipeline.ownSems0 (Ix := ℕ) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
theorem unscopedSems0_eq (c : Dev nD) : (unscopedSems0 c : sProp 𝕄) = semVal (kcell (c, 0)) 0 := by
  unfold unscopedSems0; rw [bigSep_eq_bigSepL_of_eq [SemLoc.reg bS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  exact sep_comm.1

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows, the levels apart. -/
def known : sProp 𝕄 :=
  iprop((bigSep Finset.univ fun ck : Dev nD × Fin 9 => iprop(∃ κ : ℕ, cellInv ER (Rd m) κ (kcell ck)))
    ∗ bigSep Finset.univ fun ck : Dev nD × Fin 9 => reached ER (kcell ck) 0)
instance known_persistent : BI.Persistent (known (F := F) m) := by unfold known; infer_instance

/-- The duties device `c` pays: its own sends and copies, the receives of the device after, the credits of the device before, and one
    barrier unit of each. -/
def payToks (c : Dev nD) : sProp 𝕄 :=
  iprop((dutyTok ER (barC (nxt c)) 0 false ∗ dutyTok ER (barC (prv c)) 0 true) ∗ (bigSep (Finset.Ico 0 24) (tokS c)) ∗ (bigSep (Finset.Ico 0 24) (tokR c))
    ∗ (bigSep (Finset.Ico 0 23) (tokC c)) ∗ bigSep (Finset.Ico 0 32) (tokX c))

/-- What the set-up leaves device `c`. -/
def G' (c : Dev nD) : sProp 𝕄 :=
  iprop(known m ∗ (bigSep Finset.univ fun k : Fin 9 => atPos ER (kcell (c, k)) 0 ∅ 0) ∗ payToks c)

theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barC c) 0 false : sProp 𝕄)),
    bigSep_univ_equiv ring.symm (fun c : Dev nD => (dutyTok ER (barC c) 0 true : sProp 𝕄)),
    bigSep_univ_equiv ring (fun c : Dev nD => (bigSep (Finset.Ico 0 24) fun g => dutyTok ER (rcvC c g) (g / 3) false : sProp 𝕄)),
    bigSep_univ_equiv ring.symm (fun c : Dev nD => (bigSep (Finset.Ico 0 23) fun k => dutyTok ER (crdC c) k false : sProp 𝕄))]
  exact Entails.rfl

theorem deal_known {R : sProp 𝕄} [BI.Persistent R] {Φ : Dev nD → sProp 𝕄} :
    iprop(R ∗ bigSep Finset.univ Φ) ⊢ bigSep Finset.univ fun c => iprop(R ∗ Φ c) :=
  (sep_mono_left (BI.bigSep_of_persistent Finset.univ R)).trans (Entails.of_eq (bigSep_sep' _ _ _).symm)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (Rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, HR⟩, Htok⟩
  ihave Htk := (toks_around (F := F)) $$ Htok
  iapply (deal_known (R := known m) (Φ := fun c => iprop((bigSep Finset.univ fun k : Fin 9 => atPos ER (kcell (c, k)) 0 ∅ 0) ∗ payToks c)))
  unfold known
  isplitl [HI HR]
  · isplitl [HI] <;> iassumption
  rw [bigSep_sep']
  isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the other devices owe device `c` at launch. -/
def due (c : Dev nD) : CellTallies nD τ sig ℕ :=
  ((∑ g ∈ Finset.Ico 0 24, tallyAt (rcvC c g) (g / 3) N) + ∑ k ∈ Finset.Ico 0 23, tallyAt (crdC c) k 1) + tallyAt (barC c) 0 1 + tallyAt (barC c) 0 1

theorem due_sum : (∑ d : Dev nD, O₀ d) = ∑ d : Dev nD, due d := by
  unfold O₀ O due
  rw [Finset.sum_add_distrib, Finset.sum_add_distrib, Finset.sum_add_distrib, Finset.sum_add_distrib, Finset.sum_add_distrib, Finset.sum_add_distrib,
    ← Equiv.sum_comp ring (fun d : Dev nD => ∑ g ∈ Finset.Ico 0 24, (tallyAt (rcvC d g) (g / 3) N : CellTallies nD τ sig ℕ)),
    ← Equiv.sum_comp ring.symm (fun d : Dev nD => ∑ k ∈ Finset.Ico 0 23, (tallyAt (crdC d) k 1 : CellTallies nD τ sig ℕ))]
  congr 1
  · congr 1
    exact Equiv.sum_comp ring (fun d : Dev nD => (tallyAt (barC d) 0 1 : CellTallies nD τ sig ℕ))
  · exact Equiv.sum_comp ring.symm (fun d : Dev nD => (tallyAt (barC d) 0 1 : CellTallies nD τ sig ℕ))

theorem due_own (d : Dev nD) (g : GSem nD τ sig) (h : due d g ≠ 0) : g.1 = (d : Thread nD τ) := by
  by_contra hn
  refine h ?_
  have hz (g' : GSem nD τ sig) (i n : ℕ) (hg : g'.1 = (d : Thread nD τ)) : (tallyAt g' i n : CellTallies nD τ sig ℕ) g = 0 :=
    tallyAt_ne_cell (fun e : g = g' => hn (by rw [e]; exact hg)) i n
  unfold due
  rw [Pi.add_apply, Pi.add_apply, Pi.add_apply, Finset.sum_apply, Finset.sum_apply, Finset.sum_eq_zero (fun x _ => hz _ _ _ rfl),
    Finset.sum_eq_zero (fun x _ => hz _ _ _ rfl), hz _ _ _ rfl, add_zero, add_zero, add_zero]

theorem cred_add_eq (a b : CellTallies nD τ sig ℕ) : (cred (a + b) : sProp 𝕄) = iprop(cred a ∗ cred b) :=
  Entails.antisymm (cred_add a b).1 (cred_add a b).2

theorem creds (c : Dev nD) : (Pipeline.launchCred O₀ c : sProp 𝕄)
    = iprop((bigSep (Finset.Ico 0 24) (crR c)) ∗ (bigSep (Finset.Ico 0 23) (crC c)) ∗ cred (tallyAt (barC c) 0 2)) := by
  rw [Pipeline.launchCred_of_sum O₀ due due_sum due_own c]
  unfold due
  rw [add_assoc, tallyAt_add, cred_add_eq, cred_add_eq, sep_assoc_eq, Pipeline.cred_finsetSum, Pipeline.cred_finsetSum]

end Cert.RingProof

end
-- ==== Proof.Run.lean ====
/-
# The run

Every weakly fair execution of the program on the four devices ends, with the result array at the contents the body obligation says.
-/
module

public import proofs.«01_k».proof.Proof.Deal

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The two slots of the communication buffer -/

theorem mem_slot (g : ℕ) (i : S2x2048x512.Idx) : i ∈ (slM g).view.set ↔ (i 0).val = g % 2 := by
  have h : (slM g).view.set = (slR g).set := View.set_slice_whole _ _
  rw [h, Rect.mem_set_unit]
  have h2 : g % 2 < 2 := Nat.mod_lt _ (by decide)
  constructor
  · intro ha
    have h0 := ha 0
    have e0 : (![g % 2, 0, 0] : Fin 3 → ℕ) 0 = g % 2 := rfl
    have e1 : S1x2048x512.size 0 = 1 := rfl
    rw [e0, e1] at h0
    omega
  · intro e a
    have hl := (i a).isLt
    fin_cases a
    · exact ⟨le_of_eq e.symm, by show (i 0).val < g % 2 + 1; omega⟩
    · exact ⟨Nat.zero_le _, by show (i 1).val < 0 + 2048; rw [Nat.zero_add]; exact hl⟩
    · exact ⟨Nat.zero_le _, by show (i 2).val < 0 + 512; rw [Nat.zero_add]; exact hl⟩

theorem slots_disjoint : Disjoint (slM 0).view.set (slM 1).view.set :=
  Finset.disjoint_left.mpr fun i h0 h1 => by
    rw [mem_slot] at h0 h1; omega
theorem slots_cover : (slM 0).view.set ∪ (slM 1).view.set = Finset.univ := by
  ext i
  rw [Finset.mem_union, mem_slot, mem_slot]
  have hl : (i 0).val < 2 := (i 0).isLt
  exact ⟨fun _ => Finset.mem_univ _, fun _ => by omega⟩

theorem slots_split (c : Dev nD) (f : Buf (Elt F) ((c : Thread nD τ).loc cc0_scratch1)) :
    (((c : Thread nD τ).loc cc0_scratch1) ↦{fullShare} f : sProp 𝕄) ⊢ iprop(slotAny c 0 ∗ slotAny c 1) := by
  rw [← slots_cover]
  refine (pointsTo_union slots_disjoint).1.trans (BIClass.sep_mono ?_ ?_)
  · unfold slotAny slot owns
    iintro H
    iexists _; iexists f
    isplitr; · ipureintro; rfl
    iexact H
  · unfold slotAny slot owns
    iintro H
    iexists _; iexists f
    isplitr; · ipureintro; rfl
    iexact H

theorem slots_join (c : Dev nD) :
    iprop(slotAny c 0 ∗ slotAny c 1) ⊢ (iprop(∃ f : Buf (Elt F) ((c : Thread nD τ).loc cc0_scratch1), ((c : Thread nD τ).loc cc0_scratch1) ↦{fullShare} f) : sProp 𝕄) := by
  unfold slotAny slot owns
  iintro ⟨⟨%v, %f, -, H0⟩, ⟨%w, %g, -, H1⟩⟩
  iexists _
  iapply (show iprop(((c : Thread nD τ).loc cc0_scratch1 ↦[(slM 0).view.set]{fullShare} f) ∗ ((c : Thread nD τ).loc cc0_scratch1 ↦[(slM 1).view.set]{fullShare} g))
      ⊢ (((c : Thread nD τ).loc cc0_scratch1) ↦{fullShare} ((slM 1).view.set.piecewise g f) : sProp 𝕄) from by
    have h := pointsTo_join (q := fullShare) (f := f) (g := g) (slots_disjoint) (ℓ := (c : Thread nD τ).loc cc0_scratch1) (Ix := ℕ) (Name := ℕ) (U := UU) (Lvl := ℕ)
    rw [slots_cover] at h
    exact h)
  isplitl [H0] <;> iassumption

/-! ## Into the region and out of it -/

/-- What device `c` holds when the kernel starts, the buffers of the kernel's own apart. -/
def start (c : Dev nD) : sProp 𝕄 :=
  iprop((G' m c ∗ levAts L lv) ∗ ((bigSep (Finset.Ico 0 24) (crR c)) ∗ (bigSep (Finset.Ico 0 23) (crC c)) ∗ cred (tallyAt (barC c) 0 2)) ∗ xAll m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq, creds]
  unfold start xAll
  iintro ⟨Hx, Hlev, Hcr, -, HG⟩
  imodintro
  isplitl
  · isplitl [HG Hlev]
    · isplitl [HG] <;> iassumption
    isplitl [Hcr] <;> iassumption
  · iempintro

theorem ctx_intro (c : Dev nD) : iprop(known m ∗ levAts L lv) ⊢ (ctx m : sProp 𝕄) := by
  unfold known ctx
  iintro ⟨⟨HI, HR⟩, HL⟩
  isplitl [HI]; · iexact HI
  isplitl [HL] <;> iassumption

theorem pos_intro (g : GSem nD τ sig) (ck : Dev nD × Fin 9) (hg : kcell ck = g) : iprop(ctx m ∗ atPos ER (kcell ck) 0 ∅ 0) ⊢ (pos g 0 : sProp 𝕄) := by
  subst hg
  unfold pos
  iintro ⟨#Hx, H⟩
  isplitl [H]; · iexact H
  iapply (ctx_reached m ck); iexact Hx

theorem start_open (c : Dev nD) :
    iprop(start m c ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ⊢ (openAt m c 0 : sProp 𝕄) := by
  unfold start G' payToks openAt edge barIn poss bufs xbufAny xbuf
  rw [bigSep_fin9, if_pos rfl]
  iintro ⟨⟨⟨⟨HK, ⟨P0, P1, P2, P3, P4, P5, P6, P7, P8⟩, ⟨Hbn, Hbp⟩, HtS, HtR, HtC, HtX⟩, HL⟩, ⟨HcR, HcC, HcB⟩, Hxa⟩, Hb, ⟨%f, Hs⟩⟩
  ihave Hx := (ctx_intro m c) $$ [HK HL]
  · isplitl [HK] <;> iassumption
  icases Hx with #Hx
  ihave Hs := (slots_split c f) $$ Hs
  icases Hs with ⟨Hs0, Hs1⟩
  isplitr; · iexact Hx
  isplitl [Hbn Hbp P0 HcB Hs1]
  · isplitl [Hbp]; · iexact Hbp
    isplitl [Hbn]; · iexact Hbn
    isplitl [P0]; · iexact P0
    isplitl [HcB] <;> iassumption
  isplitl [P1 P2 P3 P4 P5 P6 P7 P8]
  · isplitl [P1 P2 P3]
    · isplitl [P1]
      · iapply (pos_intro m (sndC c 0) (c, 1) rfl)
        isplitr; · iexact Hx
        iexact P1
      isplitl [P2]
      · iapply (pos_intro m (sndC c 1) (c, 2) rfl)
        isplitr; · iexact Hx
        iexact P2
      iapply (pos_intro m (sndC c 2) (c, 3) rfl)
      isplitr; · iexact Hx
      iexact P3
    isplitl [P4 P5 P6]
    · isplitl [P4]
      · iapply (pos_intro m (rcvC c 0) (c, 4) rfl)
        isplitr; · iexact Hx
        iexact P4
      isplitl [P5]
      · iapply (pos_intro m (rcvC c 1) (c, 5) rfl)
        isplitr; · iexact Hx
        iexact P5
      iapply (pos_intro m (rcvC c 2) (c, 6) rfl)
      isplitr; · iexact Hx
      iexact P6
    isplitl [P7]
    · iapply (pos_intro m (xC c) (c, 7) rfl)
      isplitr; · iexact Hx
      iexact P7
    iapply (pos_intro m (crdC c) (c, 8) rfl)
    isplitr; · iexact Hx
    iexact P8
  isplitl [Hxa Hb Hs0]
  · isplitl [Hxa]; · iexact Hxa
    isplitl [Hb] <;> iassumption
  isplitl [HtS HtR HtC HcR HcC]
  · iapply (steps_intro c)
    isplitl [HtS]; · iexact HtS
    isplitl [HtR]; · iexact HtR
    isplitl [HcR]; · iexact HcR
    isplitl [HtC] <;> iassumption
  iexact HtX

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = openAt m c 0 from (by show stateAt m c 0 = _; unfold stateAt; exact if_pos (by decide)), scopedRest0_eq]
  iintro ⟨Hs, -, Hr⟩
  iapply (start_open m c)
  isplitl [Hs] <;> iassumption

/-- What is left at the end: the barrier semaphore at zero and `x` as it was. -/
def left (c : Dev nD) : sProp 𝕄 := iprop(unscopedSems0 c ∗ xAll m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = closed m c from (by
    show stateAt m c cfg0.N = _; rw [show cfg0.N = 8 from N_0]; unfold stateAt; exact if_neg (by decide)), scopedRest0_eq, ownSems0_eq]
  unfold closed left xbufAny xbuf
  rw [unscopedSems0_eq]
  iintro ⟨⟨Hx, Hb, Hs0, Hs1⟩, Hsem, Hz⟩
  isplitl [Hx Hz]
  · isplitl [Hz]; · iexact Hz
    iexact Hx
  isplitl [Hsem]; · iexact Hsem
  isplitl [Hb]; · iexact Hb
  iapply (slots_join c)
  isplitl [Hs0] <;> iassumption

theorem waits (c : Dev nD) : (levAts L lv : sProp 𝕄) ⊢ Pipeline.cellsWaits cfgs (dats m ρ) 0 0 c :=
  Pipeline.cellsWaits_intro cfgs (dats m ρ) 0 0 c fun w s t => by
    have hl : ∀ (w : Fin cfg0.W) (s : Fin (cfg0.win w).nbuf), lvOf (.dma ((cfg0.win w).sem s)) 0 = 0 := by decide
    show (levAts L lv : sProp 𝕄) ⊢ MayWait (c : Thread nD τ) _ 0 (owedAt c t.val)
    unfold owedAt
    by_cases ht : t.val = 0
    · rw [if_pos ht]; exact mayWait₀ c _ (hl w s)
    · rw [if_neg ht]; exact mayWait c _ 0 _ _ (by decide) (by rw [hl w s]; omega) (by rw [hl w s]; omega)

theorem owed_end (c : Dev nD) : (dats m ρ 0 c).owed (Fin.last cfg0.N) = 0 := by
  show owedAt c cfg0.N = 0
  rw [show cfg0.N = 8 from N_0]
  exact O_end c

theorem left_read (c : Dev nD) (s' : Phys nD τ sig (Elt F)) :
    iprop(left m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') : sProp 𝕄) := by
  unfold left xAll
  iintro ⟨⟨Hu, Hx⟩, -, HSI⟩
  ihave %h := (SI_pointsTo_agree (st := s')) $$ [HSI Hx]
  · isplitl [HSI] <;> iassumption
  imod (Pipeline.unscopedSems0_read (X := unscopedSems0 c) (c := c) fupd_intro s') $$ [Hu HSI] with ⟨%h2, HSI⟩
  · isplitl [Hu] <;> iassumption
  imodintro
  isplitr
  · ipureintro; exact ⟨h2, funext fun i => h i (Finset.mem_univ i)⟩
  iexact HSI

/-! ## The run -/

def finalA (c : Dev nD) (w : Fin cfg0.W) : Buf (Elt F) ((cfg0.win w).arr.view.loc (c : Thread nD τ)) := (dats m ρ 0 c).arrAt w cfg0.N

/-- Both windows' arrays at their final contents, and `x` as it was. -/
def QC (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- From any memory with zero counters, every weakly fair execution of the four devices' program ends, and then each device's arrays are
    at their final contents, its `x` is as it was and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := owed_end m ρ)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := left_read m)
    (hQ := fun _ h hs => ⟨fun c => ⟨fun w => (h c).1 w, (h c).2.2.2⟩, sem_eq_zero hs fun c => (h c).2.2.1⟩)

/-- The weights after the run are what they were. -/
theorem finalA_w (c : Dev nD) : finalA m ρ c (0 : Fin 2) = m ((c : Thread nD τ).loc main_arg1) :=
  (dats (F := F) m ρ 0 c).arrAt_in (0 : Fin 2) rfl _

end Cert.RingProof

end
-- ==== Proof.RefRun.lean ====
/-
# The reference's run

The reference program is a straight line of array operations on one device. Every execution ends, with its result buffer at `refOut` of
the two arguments.
-/
module

public import proofs.«01_k».proof.Proof.Gen.ReferenceIdeal
public import Idealize.ShloMosaic.Lib.StableHlo.Run
public import Idealize.ShloMosaic.Lib.Quiescent

@[expose] public section

noncomputable section

namespace Cert.RingProof.Ref

open Cert.ReferenceIdeal Cert.ReferenceIdeal.Gen
open Idealize.ShloMosaic Idealize.ShloMosaic.TcCoe Idealize.ShloMosaic.StableHlo Idealize.SL.Sem

variable {F : FTy → Type} [FloatOps F]

/-- The product of the two arguments, rounded to the narrow format and widened again. -/
def refY (x : FVec F S8192x8192 .bf16) (w : FVec F S8192x4096 .bf16) : FVec F S8192x4096 .f32 :=
  extf .f32 (truncf .bf16 (Host.dotGeneral dot_S8192x8192_S8192x4096_S8192x4096_1_0_0_1_n_n none x w) bitsLt_bf16_f32) bitsLt_bf16_f32

/-- One number at every index of the result. -/
abbrev spread (b : BitVec 32) : FVec F S8192x4096 .f32 := broadcastInDim S8192x4096 ![] bcast_S_S8192x4096 (constant S_ .f32 b)

/-- The reference's result: `y / (1 + exp (- clip y))`. -/
def refOut (x : FVec F S8192x8192 .bf16) (w : FVec F S8192x4096 .bf16) : FVec F S8192x4096 .f32 :=
  Host.divf (refY x w) (addf (spread 0x3F800000#32)
    (Host.exp (Host.negf (minimumf (spread 0x42700000#32) (maximumf (spread 0xC2700000#32) (refY x w))))))

/-- The operations, in order. -/
abbrev ops : List (HloOp τ sig (Elt F)) :=
  [ binary main_arg0 main_arg1 main_v0 ((fun l r => Host.dotGeneral dot_S8192x8192_S8192x4096_S8192x4096_1_0_0_1_n_n none l r) : (⟨S8192x8192, .bf16⟩ : BufTy).Contents (Elt F) → (⟨S8192x4096, .bf16⟩ : BufTy).Contents (Elt F) → (⟨S8192x4096, .f32⟩ : BufTy).Contents (Elt F)),
    unary main_v0 main_v1 ((truncf .bf16 · bitsLt_bf16_f32) : (⟨S8192x4096, .f32⟩ : BufTy).Contents (Elt F) → (⟨S8192x4096, .bf16⟩ : BufTy).Contents (Elt F)),
    unary main_v1 main_v2 ((extf .f32 · bitsLt_bf16_f32) : (⟨S8192x4096, .bf16⟩ : BufTy).Contents (Elt F) → (⟨S8192x4096, .f32⟩ : BufTy).Contents (Elt F)),
    nullary main_cst (constant S_ .f32 0xC2700000#32),
    nullary main_cst_0 (constant S_ .f32 0x42700000#32),
    TRef.unary (.of main_cst) main_call0.v0 id,
    TRef.unary main_call0.v0 main_call0.v1 (broadcastInDim S8192x4096 ![] bcast_S_S8192x4096),
    TRef.binary main_call0.v1 (.of main_v2) main_call0.v2 maximumf,
    TRef.unary (.of main_cst_0) main_call0.v3 id,
    TRef.unary main_call0.v3 main_call0.v4 (broadcastInDim S8192x4096 ![] bcast_S_S8192x4096),
    TRef.binary main_call0.v4 main_call0.v2 main_call0.v5 minimumf,
    unary main_v3 main_v4 (Host.negf : (⟨S8192x4096, .f32⟩ : BufTy).Contents (Elt F) → (⟨S8192x4096, .f32⟩ : BufTy).Contents (Elt F)),
    unary main_v4 main_v5 (Host.exp : (⟨S8192x4096, .f32⟩ : BufTy).Contents (Elt F) → (⟨S8192x4096, .f32⟩ : BufTy).Contents (Elt F)),
    nullary main_cst_1 (constant S_ .f32 0x3F800000#32),
    unary main_cst_1 main_v6 (broadcastInDim S8192x4096 ![] bcast_S_S8192x4096 : (⟨S_, .f32⟩ : BufTy).Contents (Elt F) → (⟨S8192x4096, .f32⟩ : BufTy).Contents (Elt F)),
    binary main_v6 main_v5 main_v7 (addf : (⟨S8192x4096, .f32⟩ : BufTy).Contents (Elt F) → (⟨S8192x4096, .f32⟩ : BufTy).Contents (Elt F) → (⟨S8192x4096, .f32⟩ : BufTy).Contents (Elt F)),
    binary main_v2 main_v7 main_v8 (Host.divf : (⟨S8192x4096, .f32⟩ : BufTy).Contents (Elt F) → (⟨S8192x4096, .f32⟩ : BufTy).Contents (Elt F) → (⟨S8192x4096, .f32⟩ : BufTy).Contents (Elt F)) ]

theorem main_eq (c : Dev nD) : main (F := F) c = seq ops := rfl

set_option maxHeartbeats 800000 in
theorem out_eq (V : Valuation τ sig (Elt F)) :
    after ops V (main_v8 : DevRef τ sig) = refOut (V (main_arg0 : DevRef τ sig)) (V (main_arg1 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., nullary_bufs_sub .., nullary_bufs_sub .., unary_bufs_sub .., unary_bufs_sub ..,
    binary_bufs_sub .., unary_bufs_sub .., unary_bufs_sub .., binary_bufs_sub .., unary_bufs_sub .., unary_bufs_sub .., nullary_bufs_sub ..,
    unary_bufs_sub .., binary_bufs_sub .., binary_bufs_sub ..⟩

/-- Every execution ends with the result at `refOut` of the arguments, the arguments as they were, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v8)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v8).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.RingProof.Ref

end
-- ==== Proof.Frames.lean ====
/-
# The runs, as the claims say them
-/
module

public import proofs.«01_k».proof.Defs
public import proofs.«01_k».proof.Proof.Run
public import proofs.«01_k».proof.Proof.RefRun
public import proofs.«01_k».proof.Proof.Gen.Kernel
public import proofs.«01_k».proof.Proof.Gen.KernelIdeal

@[expose] public section

noncomputable section

namespace Cert.Proof

open Idealize.ShloMosaic Idealize.ShloMosaic.TcCoe Idealize.SL.Sem

theorem quiescent_KernelIdeal : Cert.quiescent_KernelIdeal := fun m g _ =>
  (θ_run (Cert.KernelIdeal.defs (F := Ideal)) _ _).mono
    (fun _ h => ⟨fun c => ⟨(h.1 c).2, ((h.1 c).1 (0 : Fin 2)).trans (Cert.RingProof.finalA_w m g c)⟩, h.2⟩)
    (Cert.RingProof.run_main (F := Ideal) m g)

/-- The run over the bits. -/
theorem run_bits (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run (Cert.KernelIdeal.defs (F := Bits)) _ _).mono
    (fun _ h => ⟨fun c => ⟨(h.1 c).2, ((h.1 c).1 (0 : Fin 2)).trans (Cert.RingProof.finalA_w (F := Bits) m g c)⟩, h.2⟩)
    (Cert.RingProof.run_main (F := Bits) m g)

/-- The two kernels have the same text: the same body table, -/
theorem bodies_eq : (Cert.KernelIdeal.defs₀ (F := Bits) : Defs Cert.Kernel.nD Cert.Kernel.τ Cert.Kernel.sig (Elt Bits) Cert.Kernel.Λ₀)
    = Cert.Kernel.defs₀ (F := Bits) := by
  funext p l a
  match p with
  | .tc =>
    match l, a with
    | ⟨0, _⟩, (t, s) => rfl
    | ⟨_ + 1, h⟩, _ => exact absurd h (Nat.not_lt.2 (Nat.le_add_left _ _))
  | .scScalar _ => rfl
  | .scVector _ _ => rfl

/-- and the same labels over it. -/
theorem defs_eq : (Cert.KernelIdeal.defs (F := Bits) : Defs Cert.Kernel.nD Cert.Kernel.τ Cert.Kernel.sig (Elt Bits)
      (Pipeline.Sig Cert.Kernel.Λ₀ (Fin 1) fun p => (Cert.Kernel.pcfgs (F := Bits) p).Adm))
    = Cert.Kernel.defs (F := Bits) :=
  congrArg (Pipeline.defs (Cert.Kernel.pcfgs (F := Bits))) bodies_eq

theorem quiescent_Kernel : Cert.quiescent_Kernel := fun m g _ => by
  rw [← defs_eq]
  exact run_bits m g

theorem quiescent_ReferenceIdeal : Cert.quiescent_ReferenceIdeal := fun m g _ =>
  (θ_run (Cert.ReferenceIdeal.defs (F := Ideal)) _ _).mono
    (fun _ h => ⟨fun c => (h.1 c).2, h.2⟩)
    (Cert.RingProof.Ref.run_main (F := Ideal) m g)

end Cert.Proof

end
-- ==== Proof.Values.lean ====
/-
# The values

At exact arithmetic: what the result array holds at a row and a column is `y / (1 + exp (- clip y))` of the whole product's entry there,
for the kernel and for the reference. The kernel's entry is the sum of the four devices' parts of the product, in the order in which the
partial sum travels; the reference's is one sum over all columns of `x`.
-/
module

public import proofs.«01_k».proof.Proof.Run
public import proofs.«01_k».proof.Proof.RefRun
public import Idealize.ShloMosaic.Lib.MatmulPlain
public import Idealize.ShloMosaic.Lib.Layout
public import Idealize.ShloMosaic.Lib.Pipeline.ValueKit.Geometry

@[expose] public section

noncomputable section

namespace Cert.RingProof

open Cert.KernelIdeal Cert.KernelIdeal.Gen
open Idealize.ShloMosaic
open Idealize.ShloMosaic.TcCoe
open Idealize.ShloMosaic.ValueIdx
open Idealize.ShloMosaic.Pipeline (Dat Cfg Window)

section Arrays

variable {F : FTy → Type} [FloatOps F]
variable (m : (ℓ : Loc nD τ sig) → Buf (Elt F) ℓ) (ρ : Dev nD → PrngReg)

/-- The result array on device `c`: its eight blocks of columns. -/
def outA (c : Dev nD) : FVec F S2048x4096 .f32 := fun i =>
  outB m c ((i 1).val / 512) (ix2 (⟨(i 0).val, (i 0).isLt⟩ : Fin 2048) (⟨(i 1).val % 512, Nat.mod_lt _ (by decide)⟩ : Fin 512))

theorem index1 : ∀ t : Fin grid0.N, win0_1.index t = ![0, t.val] := by decide +kernel
theorem index0 : ∀ t : Fin grid0.N, win0_0.index t = ![0, t.val] := by decide +kernel

theorem finalA_out (c : Dev nD) : finalA m ρ c (1 : Fin 2) = outA m c := by
  refine (dats m ρ 0 c).arrAt_eq_of_covers (1 : Fin 2) _ (by decide +kernel) fun t hf y => ?_
  have e0 : (((win0_1.blk t).view.emb y) 0).val = (y 0).val := by
    blk_simp [index1]
  have e1 : (((win0_1.blk t).view.emb y) 1).val = t.val * 512 + (y 1).val := by
    blk_simp [index1]
  have hy : (y 1).val < 512 := (y 1).isLt
  show outB m c t.val y = outA m c ((win0_1.blk t).view.emb y)
  unfold outA
  rw [show (((win0_1.blk t).view.emb y) 1).val / 512 = t.val by rw [e1]; omega]
  congr 1
  funext a
  apply Fin.ext
  fin_cases a
  · exact e0.symm
  · show (y 1).val = (((win0_1.blk t).view.emb y) 1).val % 512
    rw [e1]; omega

/-- A chunk of `x`, entry by entry. -/
theorem xch_apply (c : Dev nD) (n : ℕ) (r k : Fin 2048) (h : xrow c n + r.val < 8192) :
    xch m c n (ix2 r k) = m ((c : Thread nD τ).loc main_arg0) (ix2 (⟨xrow c n + r.val, h⟩ : Fin 8192) k) := by
  show m ((c : Thread nD τ).loc main_arg0) ((xsM c n).view.emb (ix2 r k)) = _
  congr 1
  funext a
  apply Fin.ext
  fin_cases a
  · show xrow c n + 1 * r.val = xrow c n + r.val
    rw [Nat.one_mul]
  · show 0 + 1 * k.val = k.val
    omega

/-- A block of the weights, entry by entry. -/
theorem wblk_apply (c : Dev nD) (j : ℕ) (hj : j < 8) (k : Fin 2048) (b : Fin 512) (h : j * 512 + b.val < 4096) :
    wblk m c j (ix2 k b) = m ((c : Thread nD τ).loc main_arg1) (ix2 k (⟨j * 512 + b.val, h⟩ : Fin 4096)) := by
  have key : ∀ t : Fin grid0.N, ∀ h : t.val * 512 + b.val < 4096,
      (win0_0.blk t).view.read (Elt F) (m ((c : Thread nD τ).loc main_arg1)) (ix2 k b)
        = m ((c : Thread nD τ).loc main_arg1) (ix2 k (⟨t.val * 512 + b.val, h⟩ : Fin 4096)) := fun t h => by
    show m ((c : Thread nD τ).loc main_arg1) ((win0_0.blk t).view.emb (ix2 k b)) = _
    congr 1
    funext a
    apply Fin.ext
    fin_cases a
    · show (((win0_0.blk t).view.emb (ix2 k b)) 0).val = k.val
      blk_simp [index0]
      rfl
    · show (((win0_0.blk t).view.emb (ix2 k b)) 1).val = t.val * 512 + b.val
      blk_simp [index0]
      rfl
  obtain ⟨t, rfl⟩ : ∃ t : Fin grid0.N, t.val = j := ⟨⟨j, by rw [N_0]; exact hj⟩, rfl⟩
  have ht : (⟨t.val % 8, lt_of_lt_of_eq (Nat.mod_lt _ (by decide)) N_0.symm⟩ : Fin grid0.N) = t := Fin.ext (Nat.mod_eq_of_lt hj)
  unfold wblk
  rw [ht]
  exact key t h

end Arrays

/-! ## The operations, entry by entry -/

/-- `v / (1 + exp (- clip v))`. -/
def sg (v : EReal) : EReal :=
  Ideal.div v (Ideal.ofBits .f32 0x3F800000#32
    + Ideal.exp (-(min (Ideal.ofBits .f32 0x42700000#32) (max (Ideal.ofBits .f32 0xC2700000#32) v))))

theorem dims_plain : dot_S2048x2048_S2048x512_S2048x512_1_0_0_1_n_n = DotDims.plain 2048 2048 512 := rfl

/-- One product on the matrix unit, onto zero. -/
theorem prod_apply (x : FVec Ideal S2048x2048 .bf16) (w : FVec Ideal S2048x512 .bf16) (r : Fin 2048) (b : Fin 512) :
    matmul (F := Ideal) dot_S2048x2048_S2048x512_S2048x512_1_0_0_1_n_n none x w (constant S2048x512 .f32 0x00000000#32) (ix2 r b)
      = ∑ k : Fin 2048, x (ix2 r k) * w (ix2 k b) := by
  show FloatOps.matmul (F := Ideal) (DotDims.plain 2048 2048 512) none x w (constant S2048x512 .f32 0x00000000#32) (ix2 r b) = _
  rw [Ideal.matmul_plain_apply]
  show Ideal.ofBits .f32 0x00000000#32 + _ = _
  rw [Ideal.ofBits_zero_f32]
  exact zero_add _

theorem drop_apply (v : FVec Ideal S1x2048x512 .bf16) (r : Fin 2048) (b : Fin 512) :
    shapeCast S2048x512 v shapeCasts_S1x2048x512_S2048x512 (ix2 r b) = v (ix3 (0 : Fin 1) r b) := by
  refine (shapeCast_dropUnit_apply ![2048, 512] v _ (ix2 r b)).trans (congrArg v ?_)
  funext a
  fin_cases a <;> rfl

theorem add_apply (v : FVec Ideal S2048x512 .bf16) (r : Fin 2048) (b : Fin 512) :
    shapeCast S1x2048x512 v shapeCasts_S2048x512_S1x2048x512 (ix3 (0 : Fin 1) r b) = v (ix2 r b) := by
  refine (shapeCast_addUnit_apply ![2048, 512] v _ (ix3 (0 : Fin 1) r b)).trans (congrArg v ?_)
  funext a
  fin_cases a <;> rfl

theorem pay2_apply (x : Vec Ideal S2048x2048 .bf16) (w : Vec Ideal S2048x512 .bf16) (r : Fin 2048) (b : Fin 512) :
    k0_pay2 (F := Ideal) x w (ix3 (0 : Fin 1) r b) = ∑ k : Fin 2048, x (ix2 r k) * w (ix2 k b) := by
  unfold k0_pay2
  rw [shapeCast_self, add_apply]
  exact prod_apply x w r b

theorem pay3_apply (s : Vec Ideal S1x2048x512 .bf16) (x : Vec Ideal S2048x2048 .bf16) (w : Vec Ideal S2048x512 .bf16) (r : Fin 2048) (b : Fin 512) :
    k0_pay3 (F := Ideal) s x w (ix3 (0 : Fin 1) r b) = s (ix3 (0 : Fin 1) r b) + ∑ k : Fin 2048, x (ix2 r k) * w (ix2 k b) := by
  unfold k0_pay3
  rw [shapeCast_self, add_apply]
  exact congrArg₂ (fun a b : EReal => a + b) (drop_apply s r b) (prod_apply x w r b)

theorem pay4_apply (s : Vec Ideal S1x2048x512 .bf16) (x : Vec Ideal S2048x2048 .bf16) (w : Vec Ideal S2048x512 .bf16) (r : Fin 2048) (b : Fin 512) :
    k0_pay4 (F := Ideal) s x w (ix3 (0 : Fin 1) r b) = s (ix3 (0 : Fin 1) r b) + ∑ k : Fin 2048, x (ix2 r k) * w (ix2 k b) :=
  pay3_apply s x w r b

theorem pay1_apply (s : Vec Ideal S1x2048x512 .bf16) (x : Vec Ideal S2048x2048 .bf16) (w : Vec Ideal S2048x512 .bf16) (r : Fin 2048) (b : Fin 512) :
    k0_pay1 (F := Ideal) s x w (ix2 r b) = sg (s (ix3 (0 : Fin 1) r b) + ∑ k : Fin 2048, x (ix2 r k) * w (ix2 k b)) := by
  unfold k0_pay1
  rw [shapeCast_self]
  have hy := congrArg₂ (fun a b : EReal => a + b) (drop_apply s r b) (prod_apply x w r b)
  rw [← hy]
  show Ideal.div _ (_ + Ideal.exp (Ideal.ofBits .f32 0x00000000#32 - _)) = Ideal.div _ (_ + Ideal.exp _)
  rw [Ideal.ofBits_zero_f32, zero_sub]
  rfl

/-- The reference's last operations, at an index. -/
theorem tail_apply {S : Shape} (y s₁ s₂ s₃ : FVec Ideal S .f32) (i : S.Idx) :
    Host.divf (F := Ideal) y (addf s₁ (Host.exp (Host.negf (minimumf s₂ (maximumf s₃ y))))) i
      = Ideal.div (y i) ((s₁ i : EReal) + Ideal.exp (-(min (s₂ i : EReal) (max (s₃ i : EReal) (y i))))) := rfl

theorem refOut_apply (X : FVec Ideal Cert.ReferenceIdeal.S8192x8192 .bf16) (W : FVec Ideal Cert.ReferenceIdeal.S8192x4096 .bf16)
    (R : Fin 8192) (C : Fin 4096) :
    Ref.refOut (F := Ideal) X W (ix2 R C) = sg (∑ k : Fin 8192, X (ix2 R k) * W (ix2 k C)) := by
  have hy : Ref.refY (F := Ideal) X W (ix2 R C) = ∑ k : Fin 8192, X (ix2 R k) * W (ix2 k C) := by
    refine (Ideal.matmul_plain_apply (M := 8192) (K := 8192) (N := 4096) (φ₁ := .bf16) (φ₂ := .bf16) none X W (fun _ => (0 : EReal)) R C).trans ?_
    exact zero_add _
  rw [← hy]
  have hs : ∀ b : BitVec 32, Ref.spread (F := Ideal) b (ix2 R C) = Ideal.ofBits .f32 b := fun b => rfl
  unfold Ref.refOut
  rw [tail_apply, hs, hs, hs]
  unfold sg
  with_reducible rfl

/-! ## The partial sums -/

/-- An entry of a matrix at any two numbers. -/
def el {n k : ℕ} [NeZero n] [NeZero k] (X : FVec Ideal ⟨2, ![n, k]⟩ .bf16) (a b : ℕ) : EReal := X (ix2 (Fin.ofNat n a) (Fin.ofNat k b))

theorem el_eq {n k : ℕ} [NeZero n] [NeZero k] (X : FVec Ideal ⟨2, ![n, k]⟩ .bf16) (a : Fin n) (b : Fin k) : el X a.val b.val = X (ix2 a b) := by
  unfold el
  congr 2
  · exact Fin.ext (Nat.mod_eq_of_lt a.isLt)
  · exact Fin.ext (Nat.mod_eq_of_lt b.isLt)

variable (X : FVec Ideal ⟨2, ![8192, 8192]⟩ .bf16) (W : FVec Ideal ⟨2, ![8192, 4096]⟩ .bf16)

/-- Device `d`'s part of the product's entry at row `R`, column `C`. -/
def part (d R C : ℕ) : EReal := ∑ k ∈ Finset.range 2048, el X R (2048 * d + k) * el W (2048 * d + k) C

/-- The four parts make the whole sum. -/
theorem parts_sum (R C : ℕ) : part X W 0 R C + part X W 1 R C + part X W 2 R C + part X W 3 R C
    = ∑ k ∈ Finset.range 8192, el X R k * el W k C := by
  have step : ∀ d : ℕ, ∑ k ∈ Finset.range (2048 * d + 2048), el X R k * el W k C
      = ∑ k ∈ Finset.range (2048 * d), el X R k * el W k C + part X W d R C := fun d => Finset.sum_range_add _ _ _
  have h3 : ∑ k ∈ Finset.range 8192, el X R k * el W k C = ∑ k ∈ Finset.range 6144, el X R k * el W k C + part X W 3 R C := step 3
  have h2 : ∑ k ∈ Finset.range 6144, el X R k * el W k C = ∑ k ∈ Finset.range 4096, el X R k * el W k C + part X W 2 R C := step 2
  have h1 : ∑ k ∈ Finset.range 4096, el X R k * el W k C = ∑ k ∈ Finset.range 2048, el X R k * el W k C + part X W 1 R C := step 1
  have h0 : ∑ k ∈ Finset.range 2048, el X R k * el W k C = ∑ k ∈ Finset.range 0, el X R k * el W k C + part X W 0 R C := step 0
  rw [h3, h2, h1, h0, Finset.sum_range_zero, zero_add]

/-- The cut of the first argument by columns, and of the second and the result by rows. -/
theorem tiles_cols : Layout.Tiles ⟨2, ![8192, 2048]⟩ ⟨2, ![8192, 8192]⟩ 1 4 := by decide
theorem tiles_rows : Layout.Tiles ⟨2, ![2048, 4096]⟩ ⟨2, ![8192, 4096]⟩ 0 4 := by decide

section Kernel

variable (m : (ℓ : Loc nD τ sig) → Buf (Elt Ideal) ℓ)
  (hx : ∀ c : Dev nD, m ((c : Thread nD τ).loc main_arg0) = Layout.block ⟨2, ![8192, 2048]⟩ ⟨2, ![8192, 8192]⟩ 1 4 c X tiles_cols)
  (hw : ∀ c : Dev nD, m ((c : Thread nD τ).loc main_arg1) = Layout.block ⟨2, ![2048, 4096]⟩ ⟨2, ![8192, 4096]⟩ 0 4 c W tiles_rows)

theorem xrow_lt (c : Dev nD) (n : ℕ) (r : Fin 2048) : xrow c n + r.val < 8192 := by
  have := r.isLt
  unfold xrow
  omega

include hx hw in
/-- One device's product of a chunk by a block of the weights is its part of the whole product. -/
theorem prod_part (c : Dev nD) (n j : ℕ) (hj : j < 8) (r : Fin 2048) (b : Fin 512) :
    (∑ k : Fin 2048, (xch m c n (ix2 r k) : EReal) * wblk m c j (ix2 k b)) = part X W c.val (xrow c n + r.val) (j * 512 + b.val) := by
  unfold part
  rw [← Fin.sum_univ_eq_sum_range (fun k => el X (xrow c n + r.val) (2048 * c.val + k) * el W (2048 * c.val + k) (j * 512 + b.val)) 2048]
  refine Finset.sum_congr rfl fun k _ => ?_
  have hb := b.isLt
  have hk := k.isLt
  have hc : c.val < 4 := c.isLt
  have h1 := xrow_lt c n r
  have h2 : j * 512 + b.val < 4096 := by omega
  have h3 : 2048 * c.val + k.val < 8192 := by omega
  rw [xch_apply m c n r k h1, wblk_apply m c j hj k b h2, hx c, hw c]
  refine congrArg₂ (fun a b : EReal => a * b) ?_ ?_
  · rw [el_eq X ⟨_, h1⟩ ⟨_, h3⟩, Layout.block_apply]
    congr 1
    funext a
    apply Fin.ext
    fin_cases a
    · rfl
    · show c.val * 2048 + k.val = 2048 * c.val + k.val
      omega
  · rw [el_eq W ⟨_, h3⟩ ⟨_, h2⟩, Layout.block_apply]
    congr 1
    funext a
    apply Fin.ext
    fin_cases a
    · show c.val * 2048 + k.val = 2048 * c.val + k.val
      omega
    · rfl

theorem xrow_prv (c : Dev nD) (n : ℕ) (hn : n < 3) : xrow (prv c) n = xrow c (n + 1) := by
  unfold xrow prv
  have hc : c.val < 4 := c.isLt
  show ((c.val + 3) % 4 + 7 - n % 4) % 4 * 2048 = _
  congr 1
  omega

include hx hw in
/-- The result block: of the entry's four parts, each device's in turn. -/
theorem outB_apply (c : Dev nD) (j : ℕ) (hj : j < 8) (r : Fin 2048) (b : Fin 512) :
    outB m c j (ix2 r b) = sg (∑ k ∈ Finset.range 8192, el X (c.val * 2048 + r.val) k * el W k (j * 512 + b.val)) := by
  have hr : xrow c 3 = c.val * 2048 := by unfold xrow; have hc : c.val < 4 := c.isLt; omega
  unfold outB acc2 acc1 acc0
  rw [pay1_apply, pay4_apply, pay3_apply, pay2_apply, prod_part X W m hx hw c 3 j hj, prod_part X W m hx hw (prv c) 2 j hj,
    prod_part X W m hx hw (prv (prv c)) 1 j hj, prod_part X W m hx hw (prv (prv (prv c))) 0 j hj,
    xrow_prv (prv (prv c)) 0 (by decide), xrow_prv (prv c) 1 (by decide), xrow_prv c 2 (by decide), hr, ← parts_sum]
  congr 1
  generalize c.val * 2048 + r.val = R
  generalize j * 512 + b.val = C
  fin_cases c
  · show part X W 1 R C + part X W 2 R C + part X W 3 R C + part X W 0 R C = _
    ac_rfl
  · show part X W 2 R C + part X W 3 R C + part X W 0 R C + part X W 1 R C = _
    ac_rfl
  · show part X W 3 R C + part X W 0 R C + part X W 1 R C + part X W 2 R C = _
    ac_rfl
  · rfl

include hx hw in
/-- The kernel's result on device `c` is block `c` of the reference's. -/
theorem outA_block (c : Dev nD) :
    outA m c = Layout.block ⟨2, ![2048, 4096]⟩ ⟨2, ![8192, 4096]⟩ 0 4 c (Ref.refOut (F := Ideal) X W) tiles_rows := by
  funext i
  have hc : c.val < 4 := c.isLt
  have h0 : (i 0).val < 2048 := (i 0).isLt
  have h1 : (i 1).val < 4096 := (i 1).isLt
  have hR : c.val * 2048 + (i 0).val < 8192 := by omega
  rw [Layout.block_apply]
  have hi : tiles_rows.idx c i
      = ix2 (⟨c.val * 2048 + (i 0).val, hR⟩ : Fin 8192) (⟨(i 1).val, h1⟩ : Fin 4096) := by
    funext a
    apply Fin.ext
    fin_cases a <;> rfl
  rw [hi, refOut_apply]
  unfold outA
  rw [outB_apply X W m hx hw c _ (by omega)]
  refine congrArg sg ?_
  rw [← Fin.sum_univ_eq_sum_range (fun k => el X (c.val * 2048 + (i 0).val) k * el W k ((i 1).val / 512 * 512 + (i 1).val % 512)) 8192]
  refine Finset.sum_congr rfl fun k _ => ?_
  rw [show (i 1).val / 512 * 512 + (i 1).val % 512 = (i 1).val by omega]
  exact congrArg₂ (fun a b : EReal => a * b) (el_eq X ⟨_, hR⟩ k) (el_eq W k ⟨_, h1⟩)

end Kernel

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- Both programs run, and the kernel's result on each device is that device's block of rows of the reference's. -/
theorem algebraic : Cert.algebraic_KernelIdeal_ReferenceIdeal := by
  intro m g m' g' _ hag
  refine ⟨Cert.RingProof.Ref.refOut (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨(((h.1 c).1 (1 : Fin 2)).trans (Cert.RingProof.finalA_out m g c)).trans
          (Cert.RingProof.outA_block _ _ m (fun c => (hag c).1) (fun c => (hag c).2) c),
        (h.1 c).2, ((h.1 c).1 (0 : Fin 2)).trans (Cert.RingProof.finalA_w m g c)⟩)
      (Cert.RingProof.run_main (F := Ideal) m g)
  · exact (θ_run (Cert.ReferenceIdeal.defs (F := Ideal)) _ _).mono (fun _ h => h.1 0)
      (Cert.RingProof.Ref.run_main (F := Ideal) m' g')

theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
